-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)) (v6 : (c : Dev Cert.KernelIdeal.nD) → Buf (Elt Ideal) ((c.tc : Thread Cert.KernelIdeal.nD Cert.KernelIdeal.τ).loc Cert.KernelIdeal.main_v5_6)) (v7 : (c : Dev Cert.KernelIdeal.nD) → Buf (Elt Ideal) ((c.tc : Thread Cert.KernelIdeal.nD Cert.KernelIdeal.τ).loc Cert.KernelIdeal.main_v5_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_v5_6) = v6 c
          ∧ r.2.mem ((c.tc : Thread Cert.KernelIdeal.nD Cert.KernelIdeal.τ).loc Cert.KernelIdeal.main_v5_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_v2_6) = v6 c
          ∧ r.2.mem ((c.tc : Thread Cert.ReferenceIdeal.nD Cert.ReferenceIdeal.τ).loc Cert.ReferenceIdeal.main_v2_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1792x3072 : Shape := ⟨3, ![1, 1792, 3072]⟩
abbrev S10800x128 : Shape := ⟨2, ![10800, 128]⟩
abbrev S1x6x3072 : Shape := ⟨3, ![1, 6, 3072]⟩
abbrev S768x3072 : Shape := ⟨2, ![768, 3072]⟩
abbrev S3072 : Shape := ⟨1, ![3072]⟩
abbrev S3072x2048 : Shape := ⟨2, ![3072, 2048]⟩
abbrev S2048 : Shape := ⟨1, ![2048]⟩
abbrev S2048x3072 : Shape := ⟨2, ![2048, 3072]⟩
abbrev S6x1x3072 : Shape := ⟨3, ![6, 1, 3072]⟩
abbrev S1x3072 : Shape := ⟨2, ![1, 3072]⟩
abbrev S1x2048 : Shape := ⟨2, ![1, 2048]⟩
abbrev S1x1792x768 : Shape := ⟨3, ![1, 1792, 768]⟩
abbrev S1x1792 : Shape := ⟨2, ![1, 1792]⟩
abbrev S1x1792x2048 : Shape := ⟨3, ![1, 1792, 2048]⟩
abbrev S1x256x3072 : Shape := ⟨3, ![1, 256, 3072]⟩
abbrev S1536x128 : Shape := ⟨2, ![1536, 128]⟩
abbrev S1x256x768 : Shape := ⟨3, ![1, 256, 768]⟩
abbrev S1x256 : Shape := ⟨2, ![1, 256]⟩
abbrev S1x256x2048 : Shape := ⟨3, ![1, 256, 2048]⟩
abbrev S256x3072 : Shape := ⟨2, ![256, 3072]⟩
abbrev S256x2048 : Shape := ⟨2, ![256, 2048]⟩
abbrev S256x128 : Shape := ⟨2, ![256, 128]⟩
abbrev S32x128 : Shape := ⟨2, ![32, 128]⟩
abbrev S32x768 : Shape := ⟨2, ![32, 768]⟩
abbrev S1x32x768 : Shape := ⟨3, ![1, 32, 768]⟩
abbrev S32 : Shape := ⟨1, ![32]⟩
abbrev S32x1 : Shape := ⟨2, ![32, 1]⟩
abbrev S256x1 : Shape := ⟨2, ![256, 1]⟩
abbrev S128x128 : Shape := ⟨2, ![128, 128]⟩
abbrev S1x128 : Shape := ⟨2, ![1, 128]⟩
abbrev S256x256 : Shape := ⟨2, ![256, 256]⟩
abbrev S256x768 : Shape := ⟨2, ![256, 768]⟩
abbrev S768x256 : Shape := ⟨2, ![768, 256]⟩
abbrev S1x256x256 : Shape := ⟨3, ![1, 256, 256]⟩
abbrev S1x1x256 : Shape := ⟨3, ![1, 1, 256]⟩
abbrev S32x3072 : Shape := ⟨2, ![32, 3072]⟩
abbrev S1x1x3072 : Shape := ⟨3, ![1, 1, 3072]⟩
abbrev S1x32x3072 : Shape := ⟨3, ![1, 32, 3072]⟩
abbrev S3072x256 : Shape := ⟨2, ![3072, 256]⟩
abbrev S256 : Shape := ⟨1, ![256]⟩
abbrev S32x2048 : Shape := ⟨2, ![32, 2048]⟩
abbrev S1x32x2048 : Shape := ⟨3, ![1, 32, 2048]⟩
abbrev S2048x256 : Shape := ⟨2, ![2048, 256]⟩

abbrev nBuf : Space → Nat
  | .hbm => 24
  | .vmem => 33
  | .smem => 0
  | _ => 0

abbrev bufTy : (tb : Table) → Fin (tcTables nBuf tb) → BufTy
  | .hbm, ⟨0, _⟩ => ⟨S1x1792x3072, .bf16⟩
  | .hbm, ⟨1, _⟩ => ⟨S10800x128, .f32⟩
  | .hbm, ⟨2, _⟩ => ⟨S1x6x3072, .f32⟩
  | .hbm, ⟨3, _⟩ => ⟨S768x3072, .fp8e4m3⟩
  | .hbm, ⟨4, _⟩ => ⟨S3072, .f32⟩
  | .hbm, ⟨5, _⟩ => ⟨S3072x2048, .fp8e4m3⟩
  | .hbm, ⟨6, _⟩ => ⟨S2048, .f32⟩
  | .hbm, ⟨7, _⟩ => ⟨S3072x2048, .fp8e4m3⟩
  | .hbm, ⟨8, _⟩ => ⟨S2048, .f32⟩
  | .hbm, ⟨9, _⟩ => ⟨S2048x3072, .fp8e4m3⟩
  | .hbm, ⟨10, _⟩ => ⟨S3072, .f32⟩
  | .hbm, ⟨11, _⟩ => ⟨S6x1x3072, .f32⟩
  | .hbm, ⟨12, _⟩ => ⟨S1x3072, .f32⟩
  | .hbm, ⟨13, _⟩ => ⟨S1x2048, .f32⟩
  | .hbm, ⟨14, _⟩ => ⟨S1x2048, .f32⟩
  | .hbm, ⟨15, _⟩ => ⟨S1x3072, .f32⟩
  | .hbm, ⟨16, _⟩ => ⟨S1x1792x768, .bf16⟩
  | .hbm, ⟨17, _⟩ => ⟨S1x1792x3072, .bf16⟩
  | .hbm, ⟨18, _⟩ => ⟨S1x1792x768, .fp8e4m3⟩
  | .hbm, ⟨19, _⟩ => ⟨S1x1792, .f32⟩
  | .hbm, ⟨20, _⟩ => ⟨S1x1792x3072, .fp8e4m3⟩
  | .hbm, ⟨21, _⟩ => ⟨S1x1792, .f32⟩
  | .hbm, ⟨22, _⟩ => ⟨S1x1792x2048, .fp8e4m3⟩
  | .hbm, ⟨23, _⟩ => ⟨S1x1792, .f32⟩
  | .local _ .vmem, ⟨0, _⟩ => ⟨S1x256x3072, .bf16⟩
  | .local _ .vmem, ⟨1, _⟩ => ⟨S1x256x3072, .bf16⟩
  | .local _ .vmem, ⟨2, _⟩ => ⟨S1536x128, .f32⟩
  | .local _ .vmem, ⟨3, _⟩ => ⟨S1536x128, .f32⟩
  | .local _ .vmem, ⟨4, _⟩ => ⟨S6x1x3072, .f32⟩
  | .local _ .vmem, ⟨5, _⟩ => ⟨S768x3072, .fp8e4m3⟩
  | .local _ .vmem, ⟨6, _⟩ => ⟨S1x3072, .f32⟩
  | .local _ .vmem, ⟨7, _⟩ => ⟨S3072x2048, .fp8e4m3⟩
  | .local _ .vmem, ⟨8, _⟩ => ⟨S1x2048, .f32⟩
  | .local _ .vmem, ⟨9, _⟩ => ⟨S3072x2048, .fp8e4m3⟩
  | .local _ .vmem, ⟨10, _⟩ => ⟨S1x2048, .f32⟩
  | .local _ .vmem, ⟨11, _⟩ => ⟨S2048x3072, .fp8e4m3⟩
  | .local _ .vmem, ⟨12, _⟩ => ⟨S1x3072, .f32⟩
  | .local _ .vmem, ⟨13, _⟩ => ⟨S1x256x768, .bf16⟩
  | .local _ .vmem, ⟨14, _⟩ => ⟨S1x256x768, .bf16⟩
  | .local _ .vmem, ⟨15, _⟩ => ⟨S1x256x3072, .bf16⟩
  | .local _ .vmem, ⟨16, _⟩ => ⟨S1x256x3072, .bf16⟩
  | .local _ .vmem, ⟨17, _⟩ => ⟨S1x256x768, .fp8e4m3⟩
  | .local _ .vmem, ⟨18, _⟩ => ⟨S1x256x768, .fp8e4m3⟩
  | .local _ .vmem, ⟨19, _⟩ => ⟨S1x256, .f32⟩
  | .local _ .vmem, ⟨20, _⟩ => ⟨S1x256, .f32⟩
  | .local _ .vmem, ⟨21, _⟩ => ⟨S1x256x3072, .fp8e4m3⟩
  | .local _ .vmem, ⟨22, _⟩ => ⟨S1x256x3072, .fp8e4m3⟩
  | .local _ .vmem, ⟨23, _⟩ => ⟨S1x256, .f32⟩
  | .local _ .vmem, ⟨24, _⟩ => ⟨S1x256, .f32⟩
  | .local _ .vmem, ⟨25, _⟩ => ⟨S1x256x2048, .fp8e4m3⟩
  | .local _ .vmem, ⟨26, _⟩ => ⟨S1x256x2048, .fp8e4m3⟩
  | .local _ .vmem, ⟨27, _⟩ => ⟨S1x256, .f32⟩
  | .local _ .vmem, ⟨28, _⟩ => ⟨S1x256, .f32⟩
  | .local _ .vmem, ⟨29, _⟩ => ⟨S256x3072, .f32⟩
  | .local _ .vmem, ⟨30, _⟩ => ⟨S256x2048, .f32⟩
  | .local _ .vmem, ⟨31, _⟩ => ⟨S256x128, .f32⟩
  | .local _ .vmem, ⟨32, _⟩ => ⟨S256x128, .f32⟩
  | _, _ => ⟨S1x1792x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v5_3 : Ref sig .tc := ⟨.hbm, 19, rfl⟩
abbrev main_v5_4 : Ref sig .tc := ⟨.hbm, 20, rfl⟩
abbrev main_v5_5 : Ref sig .tc := ⟨.hbm, 21, rfl⟩
abbrev main_v5_6 : Ref sig .tc := ⟨.hbm, 22, rfl⟩
abbrev main_v5_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![7], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c32_i32 : BitVec 32 := 32#32
  let v685 : BitVec 32 := Scalar.muli arg24 c32_i32
  v685
def k0_off1 (k0_t1 : Fin k0_t1_loop.trips) (c0_i32_443 : BitVec 32) : Fin 2 → Nat :=
  let c0_i32 : BitVec 32 := 0#32
  let c1_i32 : BitVec 32 := 1#32
  let arg24 : BitVec 32 := Scf.iv c0_i32 c1_i32 k0_t1
  let c32_i32 : BitVec 32 := 32#32
  let v685 : BitVec 32 := Scalar.muli arg24 c32_i32
  let v686 : BitVec 32 := v685
  let c6_i32 : BitVec 32 := 6#32
  let v687 : BitVec 32 := Scalar.muli v686 c6_i32
  let v688 : BitVec 32 := Scalar.addi v687 c0_i32_443
  let v689 : Index := Scalar.indexCast v688
  let c0_444 : Index := 0#32
  ![v689.toNat, 0]
def k0_off2 (k0_t1 : Fin k0_t1_loop.trips) : Fin 3 → Nat :=
  let c0_458 : Index := 0#32
  let c0_i32 : BitVec 32 := 0#32
  let c1_i32 : BitVec 32 := 1#32
  let arg24 : BitVec 32 := Scf.iv c0_i32 c1_i32 k0_t1
  let c32_i32 : BitVec 32 := 32#32
  let v685 : BitVec 32 := Scalar.muli arg24 c32_i32
  let v686 : BitVec 32 := v685
  let v713 : Index := Scalar.indexCast v686
  let c0_459 : Index := 0#32
  ![0, v713.toNat, 0]
def k0_off3 (k0_t1 : Fin k0_t1_loop.trips) : Fin 2 → Nat :=
  let c0_i32 : BitVec 32 := 0#32
  let c1_i32 : BitVec 32 := 1#32
  let arg24 : BitVec 32 := Scf.iv c0_i32 c1_i32 k0_t1
  let c32_i32 : BitVec 32 := 32#32
  let v685 : BitVec 32 := Scalar.muli arg24 c32_i32
  let v686 : BitVec 32 := v685
  let v739 : Index := Scalar.indexCast v686
  let c0_468 : Index := 0#32
  ![v739.toNat, 0]
@[reducible] def k0_t2_loop : Scf.Loop 32 :=
  let c0_i32_155 : BitVec 32 := 0#32
  let c8_i32_156 : BitVec 32 := 8#32
  let v233 : BitVec 32 := Scalar.addi c0_i32_155 c8_i32_156
  let c1_i32_157 : BitVec 32 := 1#32
  ⟨c0_i32_155, v233, c1_i32_157⟩
def k0_mult2 (k0_t2 : Fin k0_t2_loop.trips) : BitVec 32 :=
  let c0_i32_155 : BitVec 32 := 0#32
  let c1_i32_157 : BitVec 32 := 1#32
  let arg24 : BitVec 32 := Scf.iv c0_i32_155 c1_i32_157 k0_t2
  let c32_i32 : BitVec 32 := 32#32
  let v685 : BitVec 32 := Scalar.muli arg24 c32_i32
  v685
def k0_off4 (k0_t2 : Fin k0_t2_loop.trips) : Fin 2 → Nat :=
  let c0_i32_155 : BitVec 32 := 0#32
  let c1_i32_157 : BitVec 32 := 1#32
  let arg24 : BitVec 32 := Scf.iv c0_i32_155 c1_i32_157 k0_t2
  let c32_i32 : BitVec 32 := 32#32
  let v685 : BitVec 32 := Scalar.muli arg24 c32_i32
  let v686 : BitVec 32 := v685
  let v687 : Index := Scalar.indexCast v686
  let c0_443 : Index := 0#32
  ![v687.toNat, 0]
def k0_off5 (k0_t2 : Fin k0_t2_loop.trips) : Fin 3 → Nat :=
  let c0_i32_154 : BitVec 32 := 0#32
  let c0_i32_155 : BitVec 32 := 0#32
  let c1_i32_157 : BitVec 32 := 1#32
  let arg24 : BitVec 32 := Scf.iv c0_i32_155 c1_i32_157 k0_t2
  let c32_i32 : BitVec 32 := 32#32
  let v685 : BitVec 32 := Scalar.muli arg24 c32_i32
  let v686 : BitVec 32 := v685
  let v729 : Index := Scalar.indexCast v686
  let c0_i32_459 : BitVec 32 := 0#32
  ![0, v729.toNat, 0]
def k0_off6 (k0_t2 : Fin k0_t2_loop.trips) : Fin 2 → Nat :=
  let c0_i32_155 : BitVec 32 := 0#32
  let c1_i32_157 : BitVec 32 := 1#32
  let arg24 : BitVec 32 := Scf.iv c0_i32_155 c1_i32_157 k0_t2
  let c32_i32 : BitVec 32 := 32#32
  let v685 : BitVec 32 := Scalar.muli arg24 c32_i32
  let v686 : BitVec 32 := v685
  let v733 : Index := Scalar.indexCast v686
  let c0_461 : Index := 0#32
  ![v733.toNat, 0]
@[reducible] def k0_t3_loop : Scf.Loop 32 :=
  let c0_i32_277 : BitVec 32 := 0#32
  let c8_i32_278 : BitVec 32 := 8#32
  let v475 : BitVec 32 := Scalar.addi c0_i32_277 c8_i32_278
  let c1_i32_279 : BitVec 32 := 1#32
  ⟨c0_i32_277, v475, c1_i32_279⟩
def k0_mult3 (k0_t3 : Fin k0_t3_loop.trips) : BitVec 32 :=
  let c0_i32_277 : BitVec 32 := 0#32
  let c1_i32_279 : BitVec 32 := 1#32
  let arg24 : BitVec 32 := Scf.iv c0_i32_277 c1_i32_279 k0_t3
  let c32_i32 : BitVec 32 := 32#32
  let v685 : BitVec 32 := Scalar.muli arg24 c32_i32
  v685
def k0_off7 (k0_t3 : Fin k0_t3_loop.trips) : Fin 2 → Nat :=
  let c0_i32_277 : BitVec 32 := 0#32
  let c1_i32_279 : BitVec 32 := 1#32
  let arg24 : BitVec 32 := Scf.iv c0_i32_277 c1_i32_279 k0_t3
  let c32_i32 : BitVec 32 := 32#32
  let v685 : BitVec 32 := Scalar.muli arg24 c32_i32
  let v686 : BitVec 32 := v685
  let v687 : Index := Scalar.indexCast v686
  let c0_443 : Index := 0#32
  ![v687.toNat, 0]
def k0_off8 (k0_t3 : Fin k0_t3_loop.trips) : Fin 2 → Nat :=
  let c0_i32_277 : BitVec 32 := 0#32
  let c1_i32_279 : BitVec 32 := 1#32
  let arg24 : BitVec 32 := Scf.iv c0_i32_277 c1_i32_279 k0_t3
  let c32_i32 : BitVec 32 := 32#32
  let v685 : BitVec 32 := Scalar.muli arg24 c32_i32
  let v686 : BitVec 32 := v685
  let v689 : Index := Scalar.indexCast v686
  let c0_444 : Index := 0#32
  ![v689.toNat, 0]
def k0_off9 (k0_t3 : Fin k0_t3_loop.trips) : Fin 3 → Nat :=
  let c0_447 : Index := 0#32
  let c0_i32_277 : BitVec 32 := 0#32
  let c1_i32_279 : BitVec 32 := 1#32
  let arg24 : BitVec 32 := Scf.iv c0_i32_277 c1_i32_279 k0_t3
  let c32_i32 : BitVec 32 := 32#32
  let v685 : BitVec 32 := Scalar.muli arg24 c32_i32
  let v686 : BitVec 32 := v685
  let v698 : Index := Scalar.indexCast v686
  let c0_448 : Index := 0#32
  ![0, v698.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x3072 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x256x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x768 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x3072 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x2048 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S1x1792x3072 : Shape := ⟨3, ![1, 1792, 3072]⟩
abbrev S10800x128 : Shape := ⟨2, ![10800, 128]⟩
abbrev S1x6x3072 : Shape := ⟨3, ![1, 6, 3072]⟩
abbrev S768x3072 : Shape := ⟨2, ![768, 3072]⟩
abbrev S3072 : Shape := ⟨1, ![3072]⟩
abbrev S3072x2048 : Shape := ⟨2, ![3072, 2048]⟩
abbrev S2048 : Shape := ⟨1, ![2048]⟩
abbrev S2048x3072 : Shape := ⟨2, ![2048, 3072]⟩
abbrev S10752x128 : Shape := ⟨2, ![10752, 128]⟩
abbrev S1x1792x768 : Shape := ⟨3, ![1, 1792, 768]⟩
abbrev S1x1792 : Shape := ⟨2, ![1, 1792]⟩
abbrev S1x1792x2048 : Shape := ⟨3, ![1, 1792, 2048]⟩
abbrev S1792x768 : Shape := ⟨2, ![1792, 768]⟩
abbrev S1792x3072 : Shape := ⟨2, ![1792, 3072]⟩
abbrev S6x3072 : Shape := ⟨2, ![6, 3072]⟩
abbrev S1792 : Shape := ⟨1, ![1792]⟩
abbrev S1792x1 : Shape := ⟨2, ![1792, 1]⟩
abbrev S1x3072 : Shape := ⟨2, ![1, 3072]⟩
abbrev S1792x2048 : Shape := ⟨2, ![1792, 2048]⟩
abbrev S1x2048 : Shape := ⟨2, ![1, 2048]⟩

abbrev nBuf : Space → Nat
  | .hbm => 21
  | .vmem => 19
  | .smem => 0
  | _ => 0

abbrev bufTy : (tb : Table) → Fin (tcTables nBuf tb) → BufTy
  | .hbm, ⟨0, _⟩ => ⟨S1x1792x3072, .bf16⟩
  | .hbm, ⟨1, _⟩ => ⟨S10800x128, .f32⟩
  | .hbm, ⟨2, _⟩ => ⟨S1x6x3072, .f32⟩
  | .hbm, ⟨3, _⟩ => ⟨S768x3072, .fp8e4m3⟩
  | .hbm, ⟨4, _⟩ => ⟨S3072, .f32⟩
  | .hbm, ⟨5, _⟩ => ⟨S3072x2048, .fp8e4m3⟩
  | .hbm, ⟨6, _⟩ => ⟨S2048, .f32⟩
  | .hbm, ⟨7, _⟩ => ⟨S3072x2048, .fp8e4m3⟩
  | .hbm, ⟨8, _⟩ => ⟨S2048, .f32⟩
  | .hbm, ⟨9, _⟩ => ⟨S2048x3072, .fp8e4m3⟩
  | .hbm, ⟨10, _⟩ => ⟨S3072, .f32⟩
  | .hbm, ⟨11, _⟩ => ⟨S10752x128, .f32⟩
  | .hbm, ⟨12, _⟩ => ⟨S1x1792x768, .f32⟩
  | .hbm, ⟨13, _⟩ => ⟨S1x1792x768, .bf16⟩
  | .hbm, ⟨14, _⟩ => ⟨S1x1792x3072, .bf16⟩
  | .hbm, ⟨15, _⟩ => ⟨S1x1792x768, .fp8e4m3⟩
  | .hbm, ⟨16, _⟩ => ⟨S1x1792, .f32⟩
  | .hbm, ⟨17, _⟩ => ⟨S1x1792x3072, .fp8e4m3⟩
  | .hbm, ⟨18, _⟩ => ⟨S1x1792, .f32⟩
  | .hbm, ⟨19, _⟩ => ⟨S1x1792x2048, .fp8e4m3⟩
  | .hbm, ⟨20, _⟩ => ⟨S1x1792, .f32⟩
  | .local _ .vmem, ⟨0, _⟩ => ⟨S1x1792x3072, .bf16⟩
  | .local _ .vmem, ⟨1, _⟩ => ⟨S1x1792x768, .f32⟩
  | .local _ .vmem, ⟨2, _⟩ => ⟨S1x6x3072, .f32⟩
  | .local _ .vmem, ⟨3, _⟩ => ⟨S768x3072, .fp8e4m3⟩
  | .local _ .vmem, ⟨4, _⟩ => ⟨S3072, .f32⟩
  | .local _ .vmem, ⟨5, _⟩ => ⟨S3072x2048, .fp8e4m3⟩
  | .local _ .vmem, ⟨6, _⟩ => ⟨S2048, .f32⟩
  | .local _ .vmem, ⟨7, _⟩ => ⟨S3072x2048, .fp8e4m3⟩
  | .local _ .vmem, ⟨8, _⟩ => ⟨S2048, .f32⟩
  | .local _ .vmem, ⟨9, _⟩ => ⟨S2048x3072, .fp8e4m3⟩
  | .local _ .vmem, ⟨10, _⟩ => ⟨S3072, .f32⟩
  | .local _ .vmem, ⟨11, _⟩ => ⟨S1x1792x768, .bf16⟩
  | .local _ .vmem, ⟨12, _⟩ => ⟨S1x1792x3072, .bf16⟩
  | .local _ .vmem, ⟨13, _⟩ => ⟨S1x1792x768, .fp8e4m3⟩
  | .local _ .vmem, ⟨14, _⟩ => ⟨S1x1792, .f32⟩
  | .local _ .vmem, ⟨15, _⟩ => ⟨S1x1792x3072, .fp8e4m3⟩
  | .local _ .vmem, ⟨16, _⟩ => ⟨S1x1792, .f32⟩
  | .local _ .vmem, ⟨17, _⟩ => ⟨S1x1792x2048, .fp8e4m3⟩
  | .local _ .vmem, ⟨18, _⟩ => ⟨S1x1792, .f32⟩
  | _, _ => ⟨S1x1792x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_v2_5 : Ref sig .tc := ⟨.hbm, 18, rfl⟩
abbrev main_v2_6 : Ref sig .tc := ⟨.hbm, 19, rfl⟩
abbrev main_v2_7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S1x1792x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1792x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x3072 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1792x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1792x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1792x768 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1792 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1792x3072 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1792 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1792x2048 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1792 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.KernelFrame.lean ====
/-
  The kernel's frame at any value instance: whatever the operations compute, the body keeps its eleven operands as they are,
  so every execution ends with the argument arrays unchanged. The eight results and the scratch buffers are owned at some
  contents before and after; nothing here reads what they hold.
-/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The three counted loops -/

/-- Loop 1 keeps the operand it reads and owns what it writes at some contents. -/
def inv1 (c : Dev nD) (arg2 : Memref sig .tc .vmem S1536x128 .f32) (harg2 : arg2.IsWhole) (arg12 : Memref sig .tc .vmem S1x256x768 .bf16) (arg14 : Memref sig .tc .vmem S1x256x768 .fp8e4m3) (arg22 : Memref sig .tc .vmem S256x128 .f32) (x2 : Vec F S1536x128 .f32) (_ : ℕ) (_ : Unit) : sProp 𝕄 :=
  iprop((arg2.view.loc (c : Thread nD τ) ↦[arg2.view.set]{fullShare} harg2.unread x2)
    ∗ (∃ f, (arg12.view.loc (c : Thread nD τ) ↦[arg12.view.set]{fullShare} f))
    ∗ (∃ f, (arg14.view.loc (c : Thread nD τ) ↦[arg14.view.set]{fullShare} f))
    ∗ (∃ f, (arg22.view.loc (c : Thread nD τ) ↦[arg22.view.set]{fullShare} f)))

/-- Loop 2 keeps the operand it reads and owns what it writes at some contents. -/
def inv2 (c : Dev nD) (arg3 : Memref sig .tc .vmem S6x1x3072 .f32) (harg3 : arg3.IsWhole) (arg20 : Memref sig .tc .vmem S256x3072 .f32) (arg16 : Memref sig .tc .vmem S1x256x3072 .fp8e4m3) (arg22 : Memref sig .tc .vmem S256x128 .f32) (x3 : Vec F S6x1x3072 .f32) (_ : ℕ) (_ : Unit) : sProp 𝕄 :=
  iprop((arg3.view.loc (c : Thread nD τ) ↦[arg3.view.set]{fullShare} harg3.unread x3)
    ∗ (∃ f, (arg20.view.loc (c : Thread nD τ) ↦[arg20.view.set]{fullShare} f))
    ∗ (∃ f, (arg16.view.loc (c : Thread nD τ) ↦[arg16.view.set]{fullShare} f))
    ∗ (∃ f, (arg22.view.loc (c : Thread nD τ) ↦[arg22.view.set]{fullShare} f)))

/-- Loop 3 keeps the operand it reads and owns what it writes at some contents. -/
def inv3 (c : Dev nD) (arg21 : Memref sig .tc .vmem S256x2048 .f32) (arg22 : Memref sig .tc .vmem S256x128 .f32) (arg18 : Memref sig .tc .vmem S1x256x2048 .fp8e4m3) (_ : ℕ) (_ : Unit) : sProp 𝕄 :=
  iprop((∃ f, (arg21.view.loc (c : Thread nD τ) ↦[arg21.view.set]{fullShare} f))
    ∗ (∃ f, (arg22.view.loc (c : Thread nD τ) ↦[arg22.view.set]{fullShare} f))
    ∗ (∃ f, (arg18.view.loc (c : Thread nD τ) ↦[arg18.view.set]{fullShare} f)))

variable (c : Dev nD) (i : grid0.Coords) (arg1 : Memref sig .tc .vmem S1x256x3072 .bf16) (harg1 : arg1.IsWhole) (arg2 : Memref sig .tc .vmem S1536x128 .f32) (harg2 : arg2.IsWhole) (arg3 : Memref sig .tc .vmem S6x1x3072 .f32) (harg3 : arg3.IsWhole) (arg4 : Memref sig .tc .vmem S768x3072 .fp8e4m3) (harg4 : arg4.IsWhole) (arg5 : Memref sig .tc .vmem S1x3072 .f32) (harg5 : arg5.IsWhole) (arg6 : Memref sig .tc .vmem S3072x2048 .fp8e4m3) (harg6 : arg6.IsWhole) (arg7 : Memref sig .tc .vmem S1x2048 .f32) (harg7 : arg7.IsWhole) (arg8 : Memref sig .tc .vmem S3072x2048 .fp8e4m3) (harg8 : arg8.IsWhole) (arg9 : Memref sig .tc .vmem S1x2048 .f32) (harg9 : arg9.IsWhole) (arg10 : Memref sig .tc .vmem S2048x3072 .fp8e4m3) (harg10 : arg10.IsWhole) (arg11 : Memref sig .tc .vmem S1x3072 .f32) (harg11 : arg11.IsWhole) (arg12 : Memref sig .tc .vmem S1x256x768 .bf16) (harg12 : arg12.IsWhole) (arg13 : Memref sig .tc .vmem S1x256x3072 .bf16) (harg13 : arg13.IsWhole) (arg14 : Memref sig .tc .vmem S1x256x768 .fp8e4m3) (harg14 : arg14.IsWhole) (arg15 : Memref sig .tc .vmem S1x256 .f32) (harg15 : arg15.IsWhole) (arg16 : Memref sig .tc .vmem S1x256x3072 .fp8e4m3) (harg16 : arg16.IsWhole) (arg17 : Memref sig .tc .vmem S1x256 .f32) (harg17 : arg17.IsWhole) (arg18 : Memref sig .tc .vmem S1x256x2048 .fp8e4m3) (harg18 : arg18.IsWhole) (arg19 : Memref sig .tc .vmem S1x256 .f32) (harg19 : arg19.IsWhole) (arg20 : Memref sig .tc .vmem S256x3072 .f32) (harg20 : arg20.IsWhole) (arg21 : Memref sig .tc .vmem S256x2048 .f32) (harg21 : arg21.IsWhole) (arg22 : Memref sig .tc .vmem S256x128 .f32) (harg22 : arg22.IsWhole) (arg23 : Memref sig .tc .vmem S256x128 .f32) (harg23 : arg23.IsWhole)

set_option maxHeartbeats 1000000 in
/-- One trip of loop 1. -/
theorem trip1 (E : Set ℕ) (x2 : Vec F S1536x128 .f32) (k : Fin k0_t1_loop.trips) (u : Unit) :
    inv1 (F := F) c arg2 harg2 arg12 arg14 arg22 x2 k.val u ⊢
      wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k u)
        (inv1 (F := F) c arg2 harg2 arg12 arg14 arg22 x2 (k.val + 1)) := by
  unfold inv1 k0_t1_body
  iintro ⟨H2, ⟨%f12, H12⟩, ⟨%f14, H14⟩, ⟨%f22, H22⟩⟩
  sl_exec
  sl_step
  isplitl [H2]; · iexact H2
  isplitl [H12]; · iexists _; iexact H12
  isplitl [H14]; · iexists _; iexact H14
  iexists _; iexact H22

set_option maxHeartbeats 1000000 in
/-- One trip of loop 2. -/
theorem trip2 (E : Set ℕ) (x3 : Vec F S6x1x3072 .f32) (k : Fin k0_t2_loop.trips) (u : Unit) :
    inv2 (F := F) c arg3 harg3 arg20 arg16 arg22 x3 k.val u ⊢
      wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 4#32 k u)
        (inv2 (F := F) c arg3 harg3 arg20 arg16 arg22 x3 (k.val + 1)) := by
  unfold inv2 k0_t2_body
  iintro ⟨H3, ⟨%f20, H20⟩, ⟨%f16, H16⟩, ⟨%f22, H22⟩⟩
  sl_exec
  sl_step
  isplitl [H3]; · iexact H3
  isplitl [H20]; · iexists _; iexact H20
  isplitl [H16]; · iexists _; iexact H16
  iexists _; iexact H22

set_option maxHeartbeats 1000000 in
/-- One trip of loop 3. -/
theorem trip3 (E : Set ℕ) (v460 : FVec F S256x128 .f32)  (k : Fin k0_t3_loop.trips) (u : Unit) :
    inv3 (F := F) c arg21 arg22 arg18 k.val u ⊢
      wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v460 k u)
        (inv3 (F := F) c arg21 arg22 arg18 (k.val + 1)) := by
  unfold inv3 k0_t3_body
  iintro ⟨⟨%f21, H21⟩, ⟨%f22, H22⟩, ⟨%f18, H18⟩⟩
  sl_exec
  sl_step
  isplitl [H21]; · iexists _; iexact H21
  isplitl [H22]; · iexists _; iexact H22
  iexists _; iexact H18

/-! ## The body -/

open Classical in
set_option maxHeartbeats 2000000 in
/-- The body keeps its operands and leaves the results and the scratch at some contents. -/
theorem run (x0 : Vec F S1x256x3072 .bf16) (x1 : Vec F S1536x128 .f32) (x2 : Vec F S6x1x3072 .f32) (x3 : Vec F S768x3072 .fp8e4m3) (x4 : Vec F S1x3072 .f32) (x5 : Vec F S3072x2048 .fp8e4m3) (x6 : Vec F S1x2048 .f32) (x7 : Vec F S3072x2048 .fp8e4m3) (x8 : Vec F S1x2048 .f32) (x9 : Vec F S2048x3072 .fp8e4m3) (x10 : Vec F S1x3072 .f32) :
   ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_mlp_vid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_mlp_vid_eq_skeleton]; unfold cc0_mlp_vid_skel
    simp only [k0_part22_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_for (inv1 (F := F) c arg2 harg2 arg12 arg14 arg22 x1) $$ [H1 H11 H13 HS2]
    case region => exact fun k u => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 E x1 k u
    · unfold inv1
      isplitl [H1]; · iexact H1
      isplitl [H11]; · iexists _; iexact H11
      isplitl [H13]; · iexists _; iexact H13
      iexists _; iexact HS2
    unfold inv1
    iintro %_ ⟨H1, ⟨%g112, H11⟩, ⟨%g114, H13⟩, ⟨%g122, HS2⟩⟩
    sl_exec
    sl_for (inv2 (F := F) c arg3 harg3 arg20 arg16 arg22 x2) $$ [H2 HS0 H15 HS2]
    case region => exact fun k u => trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 E x2 k u
    · unfold inv2
      isplitl [H2]; · iexact H2
      isplitl [HS0]; · iexists _; iexact HS0
      isplitl [H15]; · iexists _; iexact H15
      iexists _; iexact HS2
    unfold inv2
    iintro %_ ⟨H2, ⟨%g220, HS0⟩, ⟨%g216, H15⟩, ⟨%g222, HS2⟩⟩
    sl_exec
    sl_for (inv3 (F := F) c arg21 arg22 arg18) $$ [HS1 HS2 H17]
    case region => exact fun k u => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 E _ k u
    · unfold inv3
      isplitl [HS1]; · iexists _; iexact HS1
      isplitl [HS2]; · iexists _; iexact HS2
      iexists _; iexact H17
    unfold inv3
    iintro %_ ⟨⟨%g321, HS1⟩, ⟨%g322, HS2⟩, ⟨%g318, H17⟩⟩
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; iexists _; isplitr; swap; · iexact H11
      ipureintro; rfl
    isplitl [H12]
    · iexists _; iexists _; isplitr; swap; · iexact H12
      ipureintro; rfl
    isplitl [H13]
    · iexists _; iexists _; isplitr; swap; · iexact H13
      ipureintro; rfl
    isplitl [H14]
    · iexists _; iexists _; isplitr; swap; · iexact H14
      ipureintro; rfl
    isplitl [H15]
    · iexists _; iexists _; isplitr; swap; · iexact H15
      ipureintro; rfl
    isplitl [H16]
    · iexists _; iexists _; isplitr; swap; · iexact H16
      ipureintro; rfl
    isplitl [H17]
    · iexists _; iexists _; isplitr; swap; · iexact H17
      ipureintro; rfl
    isplitl [H18]
    · iexists _; iexists _; isplitr; swap; · iexact H18
      ipureintro; rfl
    isplitl [HS0]
    · iexists _; iexists _; isplitr; swap; · iexact HS0
      ipureintro; rfl
    isplitl [HS1]
    · iexists _; iexists _; isplitr; swap; · iexact HS1
      ipureintro; rfl
    isplitl [HS2]
    · iexists _; iexists _; isplitr; swap; · iexact HS2
      ipureintro; rfl
    iexists _; iexists _; isplitr; swap; · iexact HS3
    ipureintro; rfl

/-! ## The body's operands at a point -/

abbrev ms0_0 (t : Fin cfg0.N) : Memref sig .tc .vmem S1x256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3072x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3072x2048 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x3072 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x768 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x3072 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x768 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x3072 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256x2048 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev scM0_0 : Memref sig .tc .vmem S256x3072 .f32 := Memref.whole cc0_scratch0
abbrev scM0_1 : Memref sig .tc .vmem S256x2048 .f32 := Memref.whole cc0_scratch1
abbrev scM0_2 : Memref sig .tc .vmem S256x128 .f32 := Memref.whole cc0_scratch2
abbrev scM0_3 : Memref sig .tc .vmem S256x128 .f32 := Memref.whole cc0_scratch3

/-- The pipeline's invariant with the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-! ## The pipeline's proof data -/

/-- The windows nothing is said of: the eight results. -/
def forgets : Fin 19 → Bool := fun w => decide (11 ≤ w.val)

/-- After the body at point `t` each operand's buffer holds its block; what the results' buffers hold is left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 2000000 in
/-- The body at any point: the inputs' memrefs hold their blocks ; so the
    run applies; the invariant hands the body its scratch buffers at some contents (and the generator register) and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16, H17, H18⟩
  iapply ((run c (grid0.coords t) _ _ _ _ _ _ _ _ _ _ _ _ _ _ _ _ _ _ _ _ _ _ _ _ _ _ _ _ _ _ _ _ _ _ _ _ _ _ _ _ _ _ _ _ _ _ (iblk m c 0 t) (X0_1 m c t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
/-- From any memory with zero counters every weakly fair execution of the program terminates with every operand's array and every
    buffer the pipeline does not stage as they were, and every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: every execution terminates with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c =>
    ⟨(h.1.arr_in c 0 rfl).trans ((A_eq m c 0).trans (V_main_arg0 m c)),
      (h.1.arr_in c 1 rfl).trans ((A_eq m c 1).trans (V_main_arg1 m c)),
      ((h.1 c).2 main_arg2 (Pipeline.mem_restRefs_of main_arg2 (by decide) (by decide))).trans (V_main_arg2 m c),
      (h.1.arr_in c 3 rfl).trans ((A_eq m c 3).trans (V_main_arg3 m c)),
      ((h.1 c).2 main_arg4 (Pipeline.mem_restRefs_of main_arg4 (by decide) (by decide))).trans (V_main_arg4 m c),
      (h.1.arr_in c 5 rfl).trans ((A_eq m c 5).trans (V_main_arg5 m c)),
      ((h.1 c).2 main_arg6 (Pipeline.mem_restRefs_of main_arg6 (by decide) (by decide))).trans (V_main_arg6 m c),
      (h.1.arr_in c 7 rfl).trans ((A_eq m c 7).trans (V_main_arg7 m c)),
      ((h.1 c).2 main_arg8 (Pipeline.mem_restRefs_of main_arg8 (by decide) (by decide))).trans (V_main_arg8 m c),
      (h.1.arr_in c 9 rfl).trans ((A_eq m c 9).trans (V_main_arg9 m c)),
      ((h.1 c).2 main_arg10 (Pipeline.mem_restRefs_of main_arg10 (by decide) (by decide))).trans (V_main_arg10 m c)⟩, h.2⟩) (run_main m ρ)

end Cert.Kernel.Hand

end
-- ==== Proof.Spec.lean ====
/-
  The arithmetic of the layer's second half on ONE row, as plain functions on the extended reals: no program, no buffers,
  no blocks. Both programs are read down to these functions, the kernel block by block and the reference row by row.
-/
module

public import Idealize.ShloMosaic.Lib.Pointwise

@[expose] public section

noncomputable section

namespace Cert.Row

open Idealize.ShloMosaic

/-- Minus infinity, as the constant a maximum over a row starts from. -/
abbrev negInf : EReal := Ideal.ofBits FTy.f32 0xFF800000#32
/-- 448, the largest finite value of the eight-bit format. -/
abbrev c448 : EReal := Ideal.ofBits FTy.f32 0x43E00000#32
/-- −448. -/
abbrev cNeg448 : EReal := Ideal.ofBits FTy.f32 0xC3E00000#32
/-- 3072, the width of a row. -/
abbrev cWidth : EReal := Ideal.ofBits FTy.f32 0x45400000#32
/-- The constant added to the mean square before the root. -/
abbrev cEps : EReal := Ideal.ofBits FTy.f32 0x358637BD#32

/-- The absolute value of an element. -/
abbrev mag (x : EReal) : EReal := FloatOps.absf (F := Ideal) (φ := FTy.f32) x

/-- The largest absolute value of a row. -/
def amax {n : ℕ} (v : Fin n → EReal) : EReal := Finset.fold max negInf (fun x => mag (v x)) Finset.univ

theorem negInf_eq : negInf = ⊥ := by simp [negInf, Ideal.ofBits, Ideal.ieee]

theorem mag_nonneg (x : EReal) : 0 ≤ mag x := by
  show (0 : EReal) ≤ max x (-x)
  rcases le_total 0 x with h | h
  · exact le_max_of_le_left h
  · exact le_max_of_le_right (EReal.neg_nonneg.mpr h)

/-- The largest absolute value is the least bound: it is below `b` exactly when every absolute value is. -/
theorem amax_le {n : ℕ} (v : Fin n → EReal) (b : EReal) : amax v ≤ b ↔ ∀ j, mag (v j) ≤ b := by
  unfold amax; rw [Finset.fold_max_le, negInf_eq]; simp

/-- `m` holds, lane by lane, the largest absolute value of the first `n` groups of 256 elements of `v`, a group's two halves
    of 128 lying over each other, and of zero. -/
def LaneMax (v : Fin 2048 → EReal) (n : ℕ) (m : Fin 128 → EReal) : Prop :=
  ∀ x b, m x ≤ b ↔ 0 ≤ b ∧ ∀ (q : Fin 8) (h : Fin 2), q.val < n →
    mag (v ⟨256 * q.val + 128 * h.val + x.val, by omega⟩) ≤ b

theorem LaneMax.zero (v : Fin 2048 → EReal) : LaneMax v 0 (fun _ => 0) := fun x b =>
  ⟨fun h => ⟨h, fun q _ hq => absurd hq (Nat.not_lt_zero _)⟩, fun h => h.1⟩

/-- One more group. -/
theorem LaneMax.step {v : Fin 2048 → EReal} {n : ℕ} {m : Fin 128 → EReal} (h : LaneMax v n m) (hn : n < 8) :
    LaneMax v (n + 1) (fun x => max (m x)
      (max (mag (v ⟨256 * n + x.val, by omega⟩)) (mag (v ⟨256 * n + (128 + x.val), by omega⟩)))) := by
  intro x b
  simp only [max_le_iff, h x b]
  constructor
  · rintro ⟨⟨h0, hq⟩, h1, h2⟩
    refine ⟨h0, fun q k hlt => ?_⟩
    rcases Nat.lt_succ_iff_lt_or_eq.mp hlt with hlt | heq
    · exact hq q k hlt
    · rcases (show k.val = 0 ∨ k.val = 1 by omega) with hk | hk
      · convert h1 using 3; apply Fin.ext; simp only [heq, hk]; omega
      · convert h2 using 3; apply Fin.ext; simp only [heq, hk]; omega
  · rintro ⟨h0, hq⟩
    refine ⟨⟨h0, fun q k hlt => hq q k (by omega)⟩, ?_, ?_⟩
    · convert hq ⟨n, hn⟩ 0 (Nat.lt_succ_self n) using 3; apply Fin.ext; simp
    · convert hq ⟨n, hn⟩ 1 (Nat.lt_succ_self n) using 3; apply Fin.ext; simp; omega

/-- After the eight groups the largest lane is the row's largest absolute value. -/
theorem LaneMax.amax {v : Fin 2048 → EReal} {m : Fin 128 → EReal} (hm : LaneMax v 8 m) :
    Finset.fold max negInf m Finset.univ = amax v := by
  refine eq_of_forall_ge_iff fun b => ?_
  rw [amax_le, Finset.fold_max_le, negInf_eq]
  constructor
  · rintro ⟨-, h⟩ j
    have := ((hm ⟨j.val % 128, by omega⟩ b).mp (h _ (Finset.mem_univ _))).2 ⟨j.val / 256, by omega⟩
      ⟨j.val % 256 / 128, by omega⟩ (by simp only []; omega)
    convert this using 3
    apply Fin.ext; show j.val = 256 * (j.val / 256) + 128 * (j.val % 256 / 128) + j.val % 128; omega
  · intro h
    exact ⟨bot_le, fun x _ => (hm x b).mpr ⟨le_trans (mag_nonneg _) (h 0), fun q h' _ => h _⟩⟩

/-- The quantisation scale that a largest absolute value gives: one for a zero row, otherwise the value over 448. -/
def toScale (a : EReal) : EReal := if a = 0 then 1 else Ideal.div a c448

/-- The quantisation scale of a row. -/
def scale {n : ℕ} (v : Fin n → EReal) : EReal := toScale (amax v)

/-- The code of an element at a scale: the quotient clipped to [−448, 448]. -/
def code (x s : EReal) : EReal := min c448 (max cNeg448 (Ideal.div x s))

/-- The codes of a row at the row's own scale. -/
def codes {n : ℕ} (v : Fin n → EReal) (j : Fin n) : EReal := code (v j) (scale v)

/-- One output of a quantised linear map on row `v`: the codes against a column of weight codes, times the row's scale, times
    the column's scale. -/
def lin {n : ℕ} (v : Fin n → EReal) (w : Fin n → EReal) (sw : EReal) : EReal :=
  (∑ k, codes v k * w k) * scale v * sw

/-- The root of a row's mean square plus the small constant. -/
def rms (y : Fin 3072 → EReal) : EReal := Ideal.sqrt (Ideal.div (∑ k, y k * y k) cWidth + cEps)

/-- A row normalised by its root mean square and modulated. -/
def normed (y sc sh : Fin 3072 → EReal) (j : Fin 3072) : EReal := Ideal.div (y j) (rms y) * (1 + sc j) + sh j

/-- The gated product `g · σ(g) · u`. -/
def gated (g u : EReal) : EReal := g * Ideal.logistic g * u

/-- The parameters of the layer's second half: the four modulation rows and the weight codes with their column scales. -/
structure Params where
  g1 : Fin 3072 → EReal
  sh : Fin 3072 → EReal
  sc : Fin 3072 → EReal
  g2 : Fin 3072 → EReal
  wo : Fin 768 → Fin 3072 → EReal
  so : Fin 3072 → EReal
  w1 : Fin 3072 → Fin 2048 → EReal
  s1 : Fin 2048 → EReal
  w3 : Fin 3072 → Fin 2048 → EReal
  s3 : Fin 2048 → EReal
  w2 : Fin 2048 → Fin 3072 → EReal
  s2 : Fin 3072 → EReal

variable (W : Params) (a : Fin 768 → EReal) (x : Fin 3072 → EReal)

/-- The row after the attention's output projection and its gated residual. -/
def mid (j : Fin 3072) : EReal := x j + W.g1 j * lin a (fun k => W.wo k j) (W.so j)

/-- The normalised row that the two gate projections read. -/
def pre (j : Fin 3072) : EReal := normed (mid W a x) W.sc W.sh j

/-- The hidden row. -/
def hid (j : Fin 2048) : EReal :=
  gated (lin (pre W a x) (fun k => W.w1 k j) (W.s1 j)) (lin (pre W a x) (fun k => W.w3 k j) (W.s3 j))

/-- The row's result. -/
def out (j : Fin 3072) : EReal := mid W a x j + W.g2 j * lin (hid W a x) (fun k => W.w2 k j) (W.s2 j)

end Cert.Row

end
-- ==== Proof.Rows.lean ====
/-
  One block of 256 rows: the rows as functions of the block's operands, buffers filled some rows at a time, and what the
  kernel's array expressions of the three row loops hold at one row.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import proofs.«01_k».proof.Proof.Spec

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! ## The rows of a block -/

/-- Row `r` of the attention output: six head slices of 128, stored as six consecutive rows of a narrow array. -/
def att (x1 : Vec Ideal S1536x128 .f32) (r : Fin 256) (j : Fin 768) : EReal :=
  x1 (ix2 ⟨6 * r.val + j.val / 128, by omega⟩ ⟨j.val % 128, by omega⟩)

/-- Row `r` of the residual stream. -/
def xin (x0 : Vec Ideal S1x256x3072 .bf16) (r : Fin 256) (j : Fin 3072) : EReal := x0 (ix3 0 r j)

/-- The parameters, from the whole operands. -/
def params (x2 : Vec Ideal S6x1x3072 .f32) (x3 : Vec Ideal S768x3072 .fp8e4m3) (x4 : Vec Ideal S1x3072 .f32)
    (x5 : Vec Ideal S3072x2048 .fp8e4m3) (x6 : Vec Ideal S1x2048 .f32) (x7 : Vec Ideal S3072x2048 .fp8e4m3)
    (x8 : Vec Ideal S1x2048 .f32) (x9 : Vec Ideal S2048x3072 .fp8e4m3) (x10 : Vec Ideal S1x3072 .f32) : Row.Params where
  g1 j := x2 (ix3 2 0 j)
  sh j := x2 (ix3 3 0 j)
  sc j := x2 (ix3 4 0 j)
  g2 j := x2 (ix3 5 0 j)
  wo k j := x3 (ix2 k j)
  so j := x4 (ix2 0 j)
  w1 k j := x5 (ix2 k j)
  s1 j := x6 (ix2 0 j)
  w3 k j := x7 (ix2 k j)
  s3 j := x8 (ix2 0 j)
  w2 k j := x9 (ix2 k j)
  s2 j := x10 (ix2 0 j)

/-! ## A buffer filled some rows at a time -/

section Fill

variable {sig : RefSig} {κ : Kind} {sp : Space} {e : EltTy} {R C W : ℕ}

/-- The rows below `n` of a two-dimensional buffer hold `G`. -/
def Rows2 (v : View sig κ sp (⟨2, ![R, C]⟩ : Shape) e) (n : ℕ) (G : Fin R → Fin C → Elt Ideal e)
    (f : v.ty.Contents (Elt Ideal)) : Prop :=
  ∀ r j, r.val < n → v.read (Elt Ideal) f (ix2 r j) = G r j

/-- The rows below `n` of a buffer with a leading unit axis hold `G`. -/
def Rows3 (v : View sig κ sp (⟨3, ![1, R, C]⟩ : Shape) e) (n : ℕ) (G : Fin R → Fin C → Elt Ideal e)
    (f : v.ty.Contents (Elt Ideal)) : Prop :=
  ∀ r j, r.val < n → v.read (Elt Ideal) f (ix3 0 r j) = G r j

/-- Writing the next `W` rows fills `W` more. -/
theorem Rows2.step {v : View sig κ sp (⟨2, ![R, C]⟩ : Shape) e} {n : ℕ} {G : Fin R → Fin C → Elt Ideal e}
    {f : v.ty.Contents (Elt Ideal)} (hf : Rows2 v n G f) {off : Fin 2 → ℕ}
    (inb : ∀ a, off a + (![W, C] : Fin 2 → ℕ) a ≤ (⟨2, ![R, C]⟩ : Shape).size a)
    (w : (⟨2, ![W, C]⟩ : Shape).Idx → Elt Ideal e) (hoff : off = ![n, 0])
    (hw : ∀ (r : Fin W) (j : Fin C) (r' : Fin R), r'.val = n + r.val → w (ix2 r j) = G r' j) :
    Rows2 v (n + W) G (v.writes (Elt Ideal) f [⟨Rect.unit off ![W, C] inb, w⟩]) := by
  intro r j hr
  subst hoff
  by_cases h : r.val < n
  · rw [View.read_writes_cons_miss_of_axis (a := (0 : Fin 2)) (o := n) (n := W) v f _ _ _ rfl rfl rfl (.inl h)]
    exact hf r j h
  · have hlt : r.val - n < W := by omega
    refine (View.read_writes_cons_hit_of_coords v f (Rect.unit ![n, 0] ![W, C] inb) w []
      (ix2 (⟨r.val - n, hlt⟩ : Fin W) j) (ix2 r j) ?_).trans ?_
    · intro a
      fin_cases a
      · show r.val = n + 1 * (r.val - n); omega
      · show j.val = 0 + 1 * j.val; omega
    · exact hw _ _ _ (by show r.val = n + (r.val - n); omega)

/-- The same with the leading unit axis. -/
theorem Rows3.step {v : View sig κ sp (⟨3, ![1, R, C]⟩ : Shape) e} {n : ℕ} {G : Fin R → Fin C → Elt Ideal e}
    {f : v.ty.Contents (Elt Ideal)} (hf : Rows3 v n G f) {off : Fin 3 → ℕ}
    (inb : ∀ a, off a + (![1, W, C] : Fin 3 → ℕ) a ≤ (⟨3, ![1, R, C]⟩ : Shape).size a)
    (w : (⟨3, ![1, W, C]⟩ : Shape).Idx → Elt Ideal e) (hoff : off = ![0, n, 0])
    (hw : ∀ (r : Fin W) (j : Fin C) (r' : Fin R), r'.val = n + r.val → w (ix3 0 r j) = G r' j) :
    Rows3 v (n + W) G (v.writes (Elt Ideal) f [⟨Rect.unit off ![1, W, C] inb, w⟩]) := by
  intro r j hr
  subst hoff
  by_cases h : r.val < n
  · rw [View.read_writes_cons_miss_of_axis (a := (1 : Fin 3)) (o := n) (n := W) v f _ _ _ rfl rfl rfl (.inl h)]
    exact hf r j h
  · have hlt : r.val - n < W := by omega
    refine (View.read_writes_cons_hit_of_coords v f (Rect.unit ![0, n, 0] ![1, W, C] inb) w []
      (ix3 0 (⟨r.val - n, hlt⟩ : Fin W) j) (ix3 0 r j) ?_).trans ?_
    · intro a
      fin_cases a
      · rfl
      · show r.val = n + 1 * (r.val - n); omega
      · show j.val = 0 + 1 * j.val; omega
    · exact hw _ _ _ (by show r.val = n + (r.val - n); omega)

/-- A load from a filled two-dimensional buffer reads the rows. -/
theorem Rows2.ld {v : View sig κ sp (⟨2, ![R, C]⟩ : Shape) e} {n : ℕ} {G : Fin R → Fin C → Elt Ideal e}
    {f : v.ty.Contents (Elt Ideal)} (hf : Rows2 v n G f) {W D a b : ℕ} {off : Fin 2 → ℕ} (hoff : off = ![a, b])
    (inb : ∀ x, off x + (![W, D] : Fin 2 → ℕ) x ≤ (⟨2, ![R, C]⟩ : Shape).size x)
    (r : Fin W) (j : Fin D) (r' : Fin R) (j' : Fin C) (hr : r'.val = a + r.val) (hj : j'.val = b + j.val) (hn : r'.val < n) :
    View.readAt (Elt Ideal) v (Rect.unit (s := ⟨2, ![R, C]⟩) off ![W, D] inb).toLoadRect f (ix2 r j) = G r' j' := by
  subst hoff
  refine Eq.trans ?_ (hf r' j' hn)
  show v.read (Elt Ideal) f _ = _
  refine congrArg (v.read (Elt Ideal) f) (funext fun x => Fin.ext ?_)
  fin_cases x
  · show a + 1 * r.val = r'.val; omega
  · show b + 1 * j.val = j'.val; omega

/-- A load from a filled buffer with a leading unit axis reads the rows. -/
theorem Rows3.ld {v : View sig κ sp (⟨3, ![1, R, C]⟩ : Shape) e} {n : ℕ} {G : Fin R → Fin C → Elt Ideal e}
    {f : v.ty.Contents (Elt Ideal)} (hf : Rows3 v n G f) {W D a b : ℕ} {off : Fin 3 → ℕ} (hoff : off = ![0, a, b])
    (inb : ∀ x, off x + (![1, W, D] : Fin 3 → ℕ) x ≤ (⟨3, ![1, R, C]⟩ : Shape).size x)
    (r : Fin W) (j : Fin D) (r' : Fin R) (j' : Fin C) (hr : r'.val = a + r.val) (hj : j'.val = b + j.val) (hn : r'.val < n) :
    View.readAt (Elt Ideal) v (Rect.unit (s := ⟨3, ![1, R, C]⟩) off ![1, W, D] inb).toLoadRect f (ix3 0 r j) = G r' j' := by
  subst hoff
  refine Eq.trans ?_ (hf r' j' hn)
  show v.read (Elt Ideal) f _ = _
  refine congrArg (v.read (Elt Ideal) f) (funext fun x => Fin.ext ?_)
  fin_cases x
  · rfl
  · show a + 1 * r.val = r'.val; omega
  · show b + 1 * j.val = j'.val; omega

/-- An operand's own contents, as filled rows. -/
theorem Rows2.unread {κ : Kind} {sp : Space} {m : Memref sig κ sp (⟨2, ![R, C]⟩ : Shape) e} (hm : m.IsWhole)
    (x : (⟨2, ![R, C]⟩ : Shape).Idx → Elt Ideal e) (n : ℕ) : Rows2 m.view n (fun r j => x (ix2 r j)) (hm.unread x) :=
  fun r j _ => congrFun (hm.read_unread x) _

theorem Rows3.unread {κ : Kind} {sp : Space} {m : Memref sig κ sp (⟨3, ![1, R, C]⟩ : Shape) e} (hm : m.IsWhole)
    (x : (⟨3, ![1, R, C]⟩ : Shape).Idx → Elt Ideal e) (n : ℕ) : Rows3 m.view n (fun r j => x (ix3 0 r j)) (hm.unread x) :=
  fun r j _ => congrFun (hm.read_unread x) _

/-- The columns below `n` of a two-dimensional buffer hold `G`. -/
def Cols2 (v : View sig κ sp (⟨2, ![R, C]⟩ : Shape) e) (n : ℕ) (G : Fin R → Fin C → Elt Ideal e)
    (f : v.ty.Contents (Elt Ideal)) : Prop :=
  ∀ r j, j.val < n → v.read (Elt Ideal) f (ix2 r j) = G r j

/-- The columns below `n` of a buffer with a leading unit axis hold `G`. -/
def Cols3 (v : View sig κ sp (⟨3, ![1, R, C]⟩ : Shape) e) (n : ℕ) (G : Fin R → Fin C → Elt Ideal e)
    (f : v.ty.Contents (Elt Ideal)) : Prop :=
  ∀ r j, j.val < n → v.read (Elt Ideal) f (ix3 0 r j) = G r j

/-- Writing the next `W` columns fills `W` more. -/
theorem Cols2.cons {v : View sig κ sp (⟨2, ![R, C]⟩ : Shape) e} {n : ℕ} {G : Fin R → Fin C → Elt Ideal e}
    {f : v.ty.Contents (Elt Ideal)} {L : List (View.Piece (Elt Ideal) (⟨2, ![R, C]⟩ : Shape) e)}
    (hf : Cols2 v n G (v.writes (Elt Ideal) f L))
    (inb : ∀ a, (![0, n] : Fin 2 → ℕ) a + (![R, W] : Fin 2 → ℕ) a ≤ (⟨2, ![R, C]⟩ : Shape).size a)
    (w : (⟨2, ![R, W]⟩ : Shape).Idx → Elt Ideal e)
    (hw : ∀ (r : Fin R) (j : Fin W) (j' : Fin C), j'.val = n + j.val → w (ix2 r j) = G r j') :
    Cols2 v (n + W) G (v.writes (Elt Ideal) f (⟨Rect.unit ![0, n] ![R, W] inb, w⟩ :: L)) := by
  intro r j hj
  by_cases h : j.val < n
  · rw [View.read_writes_cons_miss_of_axis (a := (1 : Fin 2)) (o := n) (n := W) v f _ _ _ rfl rfl rfl (.inl h)]
    exact hf r j h
  · have hlt : j.val - n < W := by omega
    refine (View.read_writes_cons_hit_of_coords v f (Rect.unit ![0, n] ![R, W] inb) w L
      (ix2 r (⟨j.val - n, hlt⟩ : Fin W)) (ix2 r j) ?_).trans ?_
    · intro a
      fin_cases a
      · show r.val = 0 + 1 * r.val; omega
      · show j.val = n + 1 * (j.val - n); omega
    · exact hw _ _ _ (by show j.val = n + (j.val - n); omega)

/-- The same with the leading unit axis. -/
theorem Cols3.cons {v : View sig κ sp (⟨3, ![1, R, C]⟩ : Shape) e} {n : ℕ} {G : Fin R → Fin C → Elt Ideal e}
    {f : v.ty.Contents (Elt Ideal)} {L : List (View.Piece (Elt Ideal) (⟨3, ![1, R, C]⟩ : Shape) e)}
    (hf : Cols3 v n G (v.writes (Elt Ideal) f L))
    (inb : ∀ a, (![0, 0, n] : Fin 3 → ℕ) a + (![1, R, W] : Fin 3 → ℕ) a ≤ (⟨3, ![1, R, C]⟩ : Shape).size a)
    (w : (⟨3, ![1, R, W]⟩ : Shape).Idx → Elt Ideal e)
    (hw : ∀ (r : Fin R) (j : Fin W) (j' : Fin C), j'.val = n + j.val → w (ix3 0 r j) = G r j') :
    Cols3 v (n + W) G (v.writes (Elt Ideal) f (⟨Rect.unit ![0, 0, n] ![1, R, W] inb, w⟩ :: L)) := by
  intro r j hj
  by_cases h : j.val < n
  · rw [View.read_writes_cons_miss_of_axis (a := (2 : Fin 3)) (o := n) (n := W) v f _ _ _ rfl rfl rfl (.inl h)]
    exact hf r j h
  · have hlt : j.val - n < W := by omega
    refine (View.read_writes_cons_hit_of_coords v f (Rect.unit ![0, 0, n] ![1, R, W] inb) w L
      (ix3 0 r (⟨j.val - n, hlt⟩ : Fin W)) (ix3 0 r j) ?_).trans ?_
    · intro a
      fin_cases a
      · rfl
      · show r.val = 0 + 1 * r.val; omega
      · show j.val = n + 1 * (j.val - n); omega
    · exact hw _ _ _ (by show j.val = n + (j.val - n); omega)

theorem Cols2.rows {v : View sig κ sp (⟨2, ![R, C]⟩ : Shape) e} {G : Fin R → Fin C → Elt Ideal e}
    {f : v.ty.Contents (Elt Ideal)} (hf : Cols2 v C G f) : Rows2 v R G f := fun r j _ => hf r j j.isLt

theorem Cols3.rows {v : View sig κ sp (⟨3, ![1, R, C]⟩ : Shape) e} {G : Fin R → Fin C → Elt Ideal e}
    {f : v.ty.Contents (Elt Ideal)} (hf : Cols3 v C G f) : Rows3 v R G f := fun r j _ => hf r j j.isLt

/-- A two-dimensional buffer all of whose rows are filled holds the array `G`. -/
theorem Rows2.whole {v : View sig κ sp (⟨2, ![R, C]⟩ : Shape) e} {G : Fin R → Fin C → Elt Ideal e}
    {f : v.ty.Contents (Elt Ideal)} (hf : Rows2 v R G f) : v.read (Elt Ideal) f = fun y => G (y 0) (y 1) := by
  funext y
  refine Eq.trans (congrArg (v.read (Elt Ideal) f) ?_) (hf (y 0) (y 1) (y 0).isLt)
  funext x; match x with | ⟨0, _⟩ => rfl | ⟨1, _⟩ => rfl

/-- The same with the leading unit axis. -/
theorem Rows3.whole {v : View sig κ sp (⟨3, ![1, R, C]⟩ : Shape) e} {G : Fin R → Fin C → Elt Ideal e}
    {f : v.ty.Contents (Elt Ideal)} (hf : Rows3 v R G f) : v.read (Elt Ideal) f = fun y => G (y 1) (y 2) := by
  funext y
  refine Eq.trans (congrArg (v.read (Elt Ideal) f) ?_) (hf (y 1) (y 2) (y 1).isLt)
  funext x
  match x with
  | ⟨0, _⟩ => exact Subsingleton.elim (α := Fin 1) _ _
  | ⟨1, _⟩ => rfl
  | ⟨2, _⟩ => rfl

end Fill

/-- A load of one modulation row reads that row. -/
theorem ld_mod {arg3 : Memref sig .tc .vmem S6x1x3072 .f32} (harg3 : arg3.IsWhole) (x2 : Vec Ideal S6x1x3072 .f32) (q : Fin 6) {b C : ℕ} {off : Fin 3 → ℕ}
    (hoff : off = ![q.val, 0, b]) (inb : ∀ a, off a + (![1, 1, C] : Fin 3 → ℕ) a ≤ S6x1x3072.size a) (j : Fin C) (j' : Fin 3072)
    (hj : j'.val = b + j.val) :
    View.readAt (Elt Ideal) arg3.view (Rect.unit (s := S6x1x3072) off ![1, 1, C] inb).toLoadRect (harg3.unread x2) (ix3 0 0 j)
      = x2 (ix3 q 0 j') := by
  subst hoff
  show arg3.view.read (Elt Ideal) (harg3.unread x2) _ = _
  rw [harg3.read_unread]
  refine congrArg x2 (funext fun a => Fin.ext ?_)
  fin_cases a
  · rfl
  · rfl
  · show b + 1 * j.val = j'.val; omega

/-! ## The first loop's expressions at a row -/

section Att

variable (v0 v1 v2 v3 v4 v5 : Vec Ideal S32x128 .f32) (A : Fin 768 → EReal) (r : Fin 32)

/-- Six slices of 128 side by side are the row. -/
theorem pay2_row (h0 : ∀ l : Fin 128, v0 (ix2 r l) = A ⟨l.val, by omega⟩)
    (h1 : ∀ l : Fin 128, v1 (ix2 r l) = A ⟨128 + l.val, by omega⟩)
    (h2 : ∀ l : Fin 128, v2 (ix2 r l) = A ⟨256 + l.val, by omega⟩)
    (h3 : ∀ l : Fin 128, v3 (ix2 r l) = A ⟨384 + l.val, by omega⟩)
    (h4 : ∀ l : Fin 128, v4 (ix2 r l) = A ⟨512 + l.val, by omega⟩)
    (h5 : ∀ l : Fin 128, v5 (ix2 r l) = A ⟨640 + l.val, by omega⟩) (j : Fin 768) :
    k0_pay2 v0 v1 v2 v3 v4 v5 (ix2 r j) = A j := by
  pointwise [k0_pay2]
  simp only [h0, h1, h2, h3, h4, h5]
  split_ifs <;> exact congrArg A (Fin.ext (by first | rfl | (simp only []; omega)))

/-- Their largest absolute value. -/
theorem pay4_row (h : ∀ j, k0_pay2 v0 v1 v2 v3 v4 v5 (ix2 r j) = A j) :
    k0_pay4 v0 v1 v2 v3 v4 v5 (ix2 r 0) = Row.amax A := by
  pointwise [k0_pay4]
  simp only [h]; rfl

theorem pay3_row (j : Fin 768) (h : ∀ j, k0_pay2 v0 v1 v2 v3 v4 v5 (ix2 r j) = A j) :
    k0_pay3 v0 v1 v2 v3 v4 v5 (ix3 0 r j) = A j := by
  pointwise [k0_pay3]
  exact h j

end Att

/-- A row's codes. -/
theorem pay9_row (a : FVec Ideal S32x768 .f32) (b : FVec Ideal S32x1 .f32) (A : Fin 768 → EReal) (r : Fin 32)
    (ha : ∀ j, a (ix2 r j) = A j) (hb : b (ix2 r 0) = Row.amax A) (j : Fin 768) :
    k0_pay9 a b (Scalar.ofBits .f32 0x00000000#32) (ix3 0 r j) = Row.codes A j := by
  pointwise [k0_pay9, k0_pay8]
  rw [ha, hb]; rfl

/-- A row's scale, along a row of 128. -/
theorem pay10_row (b : FVec Ideal S32x1 .f32) (A : Fin 768 → EReal) (r : Fin 32)
    (hb : b (ix2 r 0) = Row.amax A) (j : Fin 128) :
    k0_pay10 b (Scalar.ofBits .f32 0x00000000#32) (ix2 r j) = Row.scale A := by
  pointwise [k0_pay10, k0_pay8]
  rw [hb]; rfl

/-! ## The second loop's expressions at a row -/

section Norm

variable (a : Vec Ideal S32x3072 .f32) (b c : Vec Ideal S1x1x3072 .f32) (Y sc sh : Fin 3072 → EReal) (r : Fin 32)

/-- The row normalised and modulated. -/
theorem pay5_row (ha : ∀ j, a (ix2 r j) = Y j) (hb : ∀ j, b (ix3 0 0 j) = sc j) (hc : ∀ j, c (ix3 0 0 j) = sh j)
    (j : Fin 3072) : k0_pay5 a b c (ix2 r j) = Row.normed Y sc sh j := by
  pointwise [k0_pay5]
  simp only [ha, hb, hc]; rfl

/-- Its scale. -/
theorem pay6_row (h : ∀ j, k0_pay5 a b c (ix2 r j) = Row.normed Y sc sh j) :
    k0_pay6 a b c (ix2 r 0) = Row.scale (Row.normed Y sc sh) := by
  pointwise [k0_pay6]
  simp only [h]; rfl

/-- Its codes. -/
theorem pay7_row (h : ∀ j, k0_pay5 a b c (ix2 r j) = Row.normed Y sc sh j) (j : Fin 3072) :
    k0_pay35 (k0_pay7 a b c) (ix3 0 r j) = Row.codes (Row.normed Y sc sh) j := by
  have h6 := pay6_row a b c Y sc sh r h
  pointwise [k0_pay35, k0_pay7]
  rw [h, h6]; rfl

theorem pay36_row (j : Fin 128) : k0_pay36 (k0_pay6 a b c) (ix2 r j) = k0_pay6 a b c (ix2 r 0) := by
  pointwise [k0_pay36]

end Norm

/-! ## The third loop's expression at a row -/

/-- The codes of a row at a scale. -/
theorem pay70_row (a : Vec Ideal S32x2048 .f32) (b : Vec Ideal S32x1 .f32) (r : Fin 32) (j : Fin 2048) :
    k0_pay70 a b (ix3 0 r j) = Row.code (a (ix2 r j)) (b (ix2 r 0)) := by
  pointwise [k0_pay70]
  rfl

end Cert.KernelIdeal.Hand

end
-- ==== Proof.Chunks.lean ====
/-
  What the kernel's array expressions hold at one row and one column: the column groups of the three matrix products of a
  block, and the largest absolute value of the hidden row.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import proofs.«01_k».proof.Proof.Rows

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! ## Whole-block helpers -/

/-- Two copies of a block of scales side by side. -/
theorem rep_row (f : Vec Ideal S256x128 .f32 → Vec Ideal S256x128 .f32 → FVec Ideal S256x256 .f32) (hf : f = k0_pay12 ∨ f = k0_pay38 ∨ f = k0_pay71)
    (a b : Vec Ideal S256x128 .f32) (r : Fin 256) (s : EReal) (ha : ∀ l : Fin 128, a (ix2 r l) = s) (hb : ∀ l : Fin 128, b (ix2 r l) = s) (j : Fin 256) :
    f a b (ix2 r j) = s := by
  rcases hf with rfl | rfl | rfl
  · pointwise [k0_pay12]
    simp only [ha, hb]; split_ifs <;> rfl
  · pointwise [k0_pay38]
    simp only [ha, hb]; split_ifs <;> rfl
  · pointwise [k0_pay71]
    simp only [ha, hb]; split_ifs <;> rfl

theorem pay13_row (v : Vec Ideal S1x256x768 .fp8e4m3) (r : Fin 256) (j : Fin 768) : k0_pay13 v (ix2 r j) = v (ix3 0 r j) := by
  pointwise [k0_pay13]

theorem pay39_row (v : Vec Ideal S1x256x3072 .fp8e4m3) (r : Fin 256) (j : Fin 3072) : k0_pay39 v (ix2 r j) = v (ix3 0 r j) := by
  pointwise [k0_pay39]

theorem pay72_row (v : Vec Ideal S1x256x2048 .fp8e4m3) (r : Fin 256) (j : Fin 2048) : k0_pay72 v (ix2 r j) = v (ix3 0 r j) := by
  pointwise [k0_pay72]

/-- A column of scales laid out as a row. -/
theorem turn_row (f : Vec Ideal S256x1 .f32 → FVec Ideal S1x256 .f32) (hf : f = k0_pay11 ∨ f = k0_pay37 ∨ f = k0_pay69)
    (a : Vec Ideal S256x1 .f32) (s : Fin 256 → EReal) (ha : ∀ r, a (ix2 r 0) = s r) (r : Fin 256) : f a (ix2 0 r) = s r := by
  rcases hf with rfl | rfl | rfl
  · pointwise [k0_pay11]
    simp only [ha]; split_ifs <;> exact congrArg s (Fin.ext (by first | rfl | (simp only []; omega)))
  · pointwise [k0_pay37]
    simp only [ha]; split_ifs <;> exact congrArg s (Fin.ext (by first | rfl | (simp only []; omega)))
  · pointwise [k0_pay69]
    simp only [ha]; split_ifs <;> exact congrArg s (Fin.ext (by first | rfl | (simp only []; omega)))

variable (W : Row.Params) (a : Fin 768 → EReal) (x : Fin 3072 → EReal) (r j : Fin 256)

/-! ## The twelve column groups of the row after the output projection -/

theorem y0_row (j' : Fin 3072) (v12 : Vec Ideal S256x128 .f32) (v13 : Vec Ideal S256x128 .f32) (v15 : Vec Ideal S1x256x768 .fp8e4m3) (v17 : Vec Ideal S768x256 .fp8e4m3) (v20 : Vec Ideal S1x256 .f32) (v24 : Vec Ideal S1x256x256 .bf16) (v27 : Vec Ideal S1x1x256 .f32)
    (h14 : k0_pay12 v12 v13 (ix2 r j) = Row.scale a)
    (h16 : ∀ k, k0_pay13 v15 (ix2 r k) = Row.codes a k)
    (hw : ∀ k, v17 (ix2 k j) = W.wo k j')
    (hs : v20 (ix2 0 j) = W.so j')
    (hx : v24 (ix3 0 r j) = x j')
    (hg : v27 (ix3 0 0 j) = W.g1 j') :
    k0_pay16 (k0_pay14 v24) (k0_pay15 v12 v13 v15 v17 v20 v27) (ix2 r j) = Row.mid W a x j' := by
  pointwise [k0_pay16, k0_pay14, k0_pay15]
  simp only [h14, h16, hw, hs, hx, hg]; rfl

theorem y1_row (j' : Fin 3072) (v14 : FVec Ideal S256x256 .f32) (v16 : FVec Ideal S256x768 .fp8e4m3) (v35 : Vec Ideal S768x256 .fp8e4m3) (v38 : Vec Ideal S1x256 .f32) (v42 : Vec Ideal S1x256x256 .bf16) (v45 : Vec Ideal S1x1x256 .f32)
    (h14 : v14 (ix2 r j) = Row.scale a)
    (h16 : ∀ k, v16 (ix2 r k) = Row.codes a k)
    (hw : ∀ k, v35 (ix2 k j) = W.wo k j')
    (hs : v38 (ix2 0 j) = W.so j')
    (hx : v42 (ix3 0 r j) = x j')
    (hg : v45 (ix3 0 0 j) = W.g1 j') :
    k0_pay17 v14 v16 v35 v38 v42 v45 (ix2 r j) = Row.mid W a x j' := by
  pointwise [k0_pay17]
  simp only [h14, h16, hw, hs, hx, hg]; rfl

theorem y2_row (j' : Fin 3072) (v14 : FVec Ideal S256x256 .f32) (v16 : FVec Ideal S256x768 .fp8e4m3) (v53 : Vec Ideal S768x256 .fp8e4m3) (v56 : Vec Ideal S1x256 .f32) (v60 : Vec Ideal S1x256x256 .bf16) (v63 : Vec Ideal S1x1x256 .f32)
    (h14 : v14 (ix2 r j) = Row.scale a)
    (h16 : ∀ k, v16 (ix2 r k) = Row.codes a k)
    (hw : ∀ k, v53 (ix2 k j) = W.wo k j')
    (hs : v56 (ix2 0 j) = W.so j')
    (hx : v60 (ix3 0 r j) = x j')
    (hg : v63 (ix3 0 0 j) = W.g1 j') :
    k0_pay20 (k0_pay18 v14 v16 v53 v56) (k0_pay19 v60) v63 (ix2 r j) = Row.mid W a x j' := by
  pointwise [k0_pay20, k0_pay18, k0_pay19]
  simp only [h14, h16, hw, hs, hx, hg]; rfl

theorem y3_row (j' : Fin 3072) (v14 : FVec Ideal S256x256 .f32) (v16 : FVec Ideal S256x768 .fp8e4m3) (v71 : Vec Ideal S768x256 .fp8e4m3) (v74 : Vec Ideal S1x256 .f32) (v78 : Vec Ideal S1x256x256 .bf16) (v81 : Vec Ideal S1x1x256 .f32)
    (h14 : v14 (ix2 r j) = Row.scale a)
    (h16 : ∀ k, v16 (ix2 r k) = Row.codes a k)
    (hw : ∀ k, v71 (ix2 k j) = W.wo k j')
    (hs : v74 (ix2 0 j) = W.so j')
    (hx : v78 (ix3 0 r j) = x j')
    (hg : v81 (ix3 0 0 j) = W.g1 j') :
    k0_pay21 v14 v16 v71 v74 v78 v81 (ix2 r j) = Row.mid W a x j' := by
  pointwise [k0_pay21]
  simp only [h14, h16, hw, hs, hx, hg]; rfl

theorem y4_row (j' : Fin 3072) (v14 : FVec Ideal S256x256 .f32) (v16 : FVec Ideal S256x768 .fp8e4m3) (v89 : Vec Ideal S768x256 .fp8e4m3) (v92 : Vec Ideal S1x256 .f32) (v96 : Vec Ideal S1x256x256 .bf16) (v99 : Vec Ideal S1x1x256 .f32)
    (h14 : v14 (ix2 r j) = Row.scale a)
    (h16 : ∀ k, v16 (ix2 r k) = Row.codes a k)
    (hw : ∀ k, v89 (ix2 k j) = W.wo k j')
    (hs : v92 (ix2 0 j) = W.so j')
    (hx : v96 (ix3 0 r j) = x j')
    (hg : v99 (ix3 0 0 j) = W.g1 j') :
    k0_pay24 (k0_pay22 v14 v16 v89 v92) (k0_pay23 v96) v99 (ix2 r j) = Row.mid W a x j' := by
  pointwise [k0_pay24, k0_pay22, k0_pay23]
  simp only [h14, h16, hw, hs, hx, hg]; rfl

theorem y5_row (j' : Fin 3072) (v14 : FVec Ideal S256x256 .f32) (v16 : FVec Ideal S256x768 .fp8e4m3) (v107 : Vec Ideal S768x256 .fp8e4m3) (v110 : Vec Ideal S1x256 .f32) (v114 : Vec Ideal S1x256x256 .bf16) (v117 : Vec Ideal S1x1x256 .f32)
    (h14 : v14 (ix2 r j) = Row.scale a)
    (h16 : ∀ k, v16 (ix2 r k) = Row.codes a k)
    (hw : ∀ k, v107 (ix2 k j) = W.wo k j')
    (hs : v110 (ix2 0 j) = W.so j')
    (hx : v114 (ix3 0 r j) = x j')
    (hg : v117 (ix3 0 0 j) = W.g1 j') :
    k0_pay25 v14 v16 v107 v110 v114 v117 (ix2 r j) = Row.mid W a x j' := by
  pointwise [k0_pay25]
  simp only [h14, h16, hw, hs, hx, hg]; rfl

theorem y6_row (j' : Fin 3072) (v14 : FVec Ideal S256x256 .f32) (v16 : FVec Ideal S256x768 .fp8e4m3) (v125 : Vec Ideal S768x256 .fp8e4m3) (v128 : Vec Ideal S1x256 .f32) (v132 : Vec Ideal S1x256x256 .bf16) (v135 : Vec Ideal S1x1x256 .f32)
    (h14 : v14 (ix2 r j) = Row.scale a)
    (h16 : ∀ k, v16 (ix2 r k) = Row.codes a k)
    (hw : ∀ k, v125 (ix2 k j) = W.wo k j')
    (hs : v128 (ix2 0 j) = W.so j')
    (hx : v132 (ix3 0 r j) = x j')
    (hg : v135 (ix3 0 0 j) = W.g1 j') :
    k0_pay27 (k0_pay26 v14 v16 v125 v128) v132 v135 (ix2 r j) = Row.mid W a x j' := by
  pointwise [k0_pay27, k0_pay26]
  simp only [h14, h16, hw, hs, hx, hg]; rfl

theorem y7_row (j' : Fin 3072) (v14 : FVec Ideal S256x256 .f32) (v16 : FVec Ideal S256x768 .fp8e4m3) (v143 : Vec Ideal S768x256 .fp8e4m3) (v146 : Vec Ideal S1x256 .f32) (v150 : Vec Ideal S1x256x256 .bf16) (v153 : Vec Ideal S1x1x256 .f32)
    (h14 : v14 (ix2 r j) = Row.scale a)
    (h16 : ∀ k, v16 (ix2 r k) = Row.codes a k)
    (hw : ∀ k, v143 (ix2 k j) = W.wo k j')
    (hs : v146 (ix2 0 j) = W.so j')
    (hx : v150 (ix3 0 r j) = x j')
    (hg : v153 (ix3 0 0 j) = W.g1 j') :
    k0_pay28 v14 v16 v143 v146 v150 v153 (ix2 r j) = Row.mid W a x j' := by
  pointwise [k0_pay28]
  simp only [h14, h16, hw, hs, hx, hg]; rfl

theorem y8_row (j' : Fin 3072) (v14 : FVec Ideal S256x256 .f32) (v16 : FVec Ideal S256x768 .fp8e4m3) (v161 : Vec Ideal S768x256 .fp8e4m3) (v164 : Vec Ideal S1x256 .f32) (v168 : Vec Ideal S1x256x256 .bf16) (v171 : Vec Ideal S1x1x256 .f32)
    (h14 : v14 (ix2 r j) = Row.scale a)
    (h16 : ∀ k, v16 (ix2 r k) = Row.codes a k)
    (hw : ∀ k, v161 (ix2 k j) = W.wo k j')
    (hs : v164 (ix2 0 j) = W.so j')
    (hx : v168 (ix3 0 r j) = x j')
    (hg : v171 (ix3 0 0 j) = W.g1 j') :
    k0_pay30 (k0_pay29 v14 v16 v161) v164 v168 v171 (ix2 r j) = Row.mid W a x j' := by
  pointwise [k0_pay30, k0_pay29]
  simp only [h14, h16, hw, hs, hx, hg]; rfl

theorem y9_row (j' : Fin 3072) (v14 : FVec Ideal S256x256 .f32) (v16 : FVec Ideal S256x768 .fp8e4m3) (v179 : Vec Ideal S768x256 .fp8e4m3) (v182 : Vec Ideal S1x256 .f32) (v186 : Vec Ideal S1x256x256 .bf16) (v189 : Vec Ideal S1x1x256 .f32)
    (h14 : v14 (ix2 r j) = Row.scale a)
    (h16 : ∀ k, v16 (ix2 r k) = Row.codes a k)
    (hw : ∀ k, v179 (ix2 k j) = W.wo k j')
    (hs : v182 (ix2 0 j) = W.so j')
    (hx : v186 (ix3 0 r j) = x j')
    (hg : v189 (ix3 0 0 j) = W.g1 j') :
    k0_pay31 v14 v16 v179 v182 v186 v189 (ix2 r j) = Row.mid W a x j' := by
  pointwise [k0_pay31]
  simp only [h14, h16, hw, hs, hx, hg]; rfl

theorem y10_row (j' : Fin 3072) (v14 : FVec Ideal S256x256 .f32) (v16 : FVec Ideal S256x768 .fp8e4m3) (v197 : Vec Ideal S768x256 .fp8e4m3) (v200 : Vec Ideal S1x256 .f32) (v204 : Vec Ideal S1x256x256 .bf16) (v207 : Vec Ideal S1x1x256 .f32)
    (h14 : v14 (ix2 r j) = Row.scale a)
    (h16 : ∀ k, v16 (ix2 r k) = Row.codes a k)
    (hw : ∀ k, v197 (ix2 k j) = W.wo k j')
    (hs : v200 (ix2 0 j) = W.so j')
    (hx : v204 (ix3 0 r j) = x j')
    (hg : v207 (ix3 0 0 j) = W.g1 j') :
    k0_pay33 v14 (k0_pay32 v16 v197) v200 v204 v207 (ix2 r j) = Row.mid W a x j' := by
  pointwise [k0_pay33, k0_pay32]
  simp only [h14, h16, hw, hs, hx, hg]; rfl

theorem y11_row (j' : Fin 3072) (v14 : FVec Ideal S256x256 .f32) (v16 : FVec Ideal S256x768 .fp8e4m3) (v215 : Vec Ideal S768x256 .fp8e4m3) (v218 : Vec Ideal S1x256 .f32) (v222 : Vec Ideal S1x256x256 .bf16) (v225 : Vec Ideal S1x1x256 .f32)
    (h14 : v14 (ix2 r j) = Row.scale a)
    (h16 : ∀ k, v16 (ix2 r k) = Row.codes a k)
    (hw : ∀ k, v215 (ix2 k j) = W.wo k j')
    (hs : v218 (ix2 0 j) = W.so j')
    (hx : v222 (ix3 0 r j) = x j')
    (hg : v225 (ix3 0 0 j) = W.g1 j') :
    k0_pay34 v14 v16 v215 v218 v222 v225 (ix2 r j) = Row.mid W a x j' := by
  pointwise [k0_pay34]
  simp only [h14, h16, hw, hs, hx, hg]; rfl

/-! ## The eight column groups of the hidden row -/

theorem h0_row (j' : Fin 2048) (v245 : Vec Ideal S256x128 .f32) (v246 : Vec Ideal S256x128 .f32) (v248 : Vec Ideal S1x256x3072 .fp8e4m3) (v251 : Vec Ideal S3072x256 .fp8e4m3) (v254 : Vec Ideal S1x256 .f32) (v258 : Vec Ideal S3072x256 .fp8e4m3) (v261 : Vec Ideal S1x256 .f32)
    (h14 : k0_pay38 v245 v246 (ix2 r j) = Row.scale (Row.pre W a x))
    (h16 : ∀ k, k0_pay39 v248 (ix2 r k) = Row.codes (Row.pre W a x) k)
    (hw1 : ∀ k, v251 (ix2 k j) = W.w1 k j')
    (hs1 : v254 (ix2 0 j) = W.s1 j')
    (hw3 : ∀ k, v258 (ix2 k j) = W.w3 k j')
    (hs3 : v261 (ix2 0 j) = W.s3 j') :
    k0_pay44 (k0_pay41 v245 v246 v248 v251 v254) (k0_pay42 v245 v246 v248 v258) (k0_pay43 v261) (ix2 r j) = Row.hid W a x j' := by
  pointwise [k0_pay44, k0_pay41, k0_pay42, k0_pay43]
  simp only [h14, h16, hw1, hs1, hw3, hs3]; rfl

theorem h1_row (j' : Fin 2048) (v247 : FVec Ideal S256x256 .f32) (v249 : FVec Ideal S256x3072 .fp8e4m3) (v276 : Vec Ideal S3072x256 .fp8e4m3) (v279 : Vec Ideal S1x256 .f32) (v283 : Vec Ideal S3072x256 .fp8e4m3) (v286 : Vec Ideal S1x256 .f32)
    (h14 : v247 (ix2 r j) = Row.scale (Row.pre W a x))
    (h16 : ∀ k, v249 (ix2 r k) = Row.codes (Row.pre W a x) k)
    (hw1 : ∀ k, v276 (ix2 k j) = W.w1 k j')
    (hs1 : v279 (ix2 0 j) = W.s1 j')
    (hw3 : ∀ k, v283 (ix2 k j) = W.w3 k j')
    (hs3 : v286 (ix2 0 j) = W.s3 j') :
    k0_pay46 v247 v249 v276 v279 v283 v286 (ix2 r j) = Row.hid W a x j' := by
  pointwise [k0_pay46]
  simp only [h14, h16, hw1, hs1, hw3, hs3]; rfl

theorem h3_row (j' : Fin 2048) (v247 : FVec Ideal S256x256 .f32) (v249 : FVec Ideal S256x3072 .fp8e4m3) (v326 : Vec Ideal S3072x256 .fp8e4m3) (v329 : Vec Ideal S1x256 .f32) (v333 : Vec Ideal S3072x256 .fp8e4m3) (v336 : Vec Ideal S1x256 .f32)
    (h14 : v247 (ix2 r j) = Row.scale (Row.pre W a x))
    (h16 : ∀ k, v249 (ix2 r k) = Row.codes (Row.pre W a x) k)
    (hw1 : ∀ k, v326 (ix2 k j) = W.w1 k j')
    (hs1 : v329 (ix2 0 j) = W.s1 j')
    (hw3 : ∀ k, v333 (ix2 k j) = W.w3 k j')
    (hs3 : v336 (ix2 0 j) = W.s3 j') :
    k0_pay53 v247 v249 v326 v329 v333 v336 (ix2 r j) = Row.hid W a x j' := by
  pointwise [k0_pay53]
  simp only [h14, h16, hw1, hs1, hw3, hs3]; rfl

theorem h4_row (j' : Fin 2048) (v247 : FVec Ideal S256x256 .f32) (v249 : FVec Ideal S256x3072 .fp8e4m3) (v351 : Vec Ideal S3072x256 .fp8e4m3) (v354 : Vec Ideal S1x256 .f32) (v358 : Vec Ideal S3072x256 .fp8e4m3) (v361 : Vec Ideal S1x256 .f32)
    (h14 : v247 (ix2 r j) = Row.scale (Row.pre W a x))
    (h16 : ∀ k, v249 (ix2 r k) = Row.codes (Row.pre W a x) k)
    (hw1 : ∀ k, v351 (ix2 k j) = W.w1 k j')
    (hs1 : v354 (ix2 0 j) = W.s1 j')
    (hw3 : ∀ k, v358 (ix2 k j) = W.w3 k j')
    (hs3 : v361 (ix2 0 j) = W.s3 j') :
    k0_pay55 v247 v249 v351 v354 v358 v361 (ix2 r j) = Row.hid W a x j' := by
  pointwise [k0_pay55]
  simp only [h14, h16, hw1, hs1, hw3, hs3]; rfl

theorem h6_row (j' : Fin 2048) (v247 : FVec Ideal S256x256 .f32) (v249 : FVec Ideal S256x3072 .fp8e4m3) (v401 : Vec Ideal S3072x256 .fp8e4m3) (v404 : Vec Ideal S1x256 .f32) (v408 : Vec Ideal S3072x256 .fp8e4m3) (v411 : Vec Ideal S1x256 .f32)
    (h14 : v247 (ix2 r j) = Row.scale (Row.pre W a x))
    (h16 : ∀ k, v249 (ix2 r k) = Row.codes (Row.pre W a x) k)
    (hw1 : ∀ k, v401 (ix2 k j) = W.w1 k j')
    (hs1 : v404 (ix2 0 j) = W.s1 j')
    (hw3 : ∀ k, v408 (ix2 k j) = W.w3 k j')
    (hs3 : v411 (ix2 0 j) = W.s3 j') :
    k0_pay62 v247 v249 v401 v404 v408 v411 (ix2 r j) = Row.hid W a x j' := by
  pointwise [k0_pay62]
  simp only [h14, h16, hw1, hs1, hw3, hs3]; rfl

theorem h7_row (j' : Fin 2048) (v247 : FVec Ideal S256x256 .f32) (v249 : FVec Ideal S256x3072 .fp8e4m3) (v426 : Vec Ideal S3072x256 .fp8e4m3) (v429 : Vec Ideal S1x256 .f32) (v433 : Vec Ideal S3072x256 .fp8e4m3) (v436 : Vec Ideal S1x256 .f32)
    (h14 : v247 (ix2 r j) = Row.scale (Row.pre W a x))
    (h16 : ∀ k, v249 (ix2 r k) = Row.codes (Row.pre W a x) k)
    (hw1 : ∀ k, v426 (ix2 k j) = W.w1 k j')
    (hs1 : v429 (ix2 0 j) = W.s1 j')
    (hw3 : ∀ k, v433 (ix2 k j) = W.w3 k j')
    (hs3 : v436 (ix2 0 j) = W.s3 j') :
    k0_pay65 v247 v249 v426 v429 v433 v436 (ix2 r j) = Row.hid W a x j' := by
  pointwise [k0_pay65]
  simp only [h14, h16, hw1, hs1, hw3, hs3]; rfl

theorem h2_row (j' : Fin 2048) (v247 : FVec Ideal S256x256 .f32) (v249 : FVec Ideal S256x3072 .fp8e4m3) (v301 : Vec Ideal S3072x256 .fp8e4m3) (v304 : Vec Ideal S1x256 .f32) (v308 : Vec Ideal S3072x256 .fp8e4m3) (v311 : Vec Ideal S1x256 .f32)
    (h14 : v247 (ix2 r j) = Row.scale (Row.pre W a x))
    (h16 : ∀ k, v249 (ix2 r k) = Row.codes (Row.pre W a x) k)
    (hw1 : ∀ k, v301 (ix2 k j) = W.w1 k j')
    (hs1 : v304 (ix2 0 j) = W.s1 j')
    (hw3 : ∀ k, v308 (ix2 k j) = W.w3 k j')
    (hs3 : v311 (ix2 0 j) = W.s3 j') :
    k0_pay50 v247 v249 (k0_pay49 v247 v249 v301) v304 v308 v311 (ix2 r j) = Row.hid W a x j' := by
  pointwise [k0_pay50, k0_pay49]
  simp only [h14, h16, hw1, hs1, hw3, hs3]; rfl

theorem h5_row (j' : Fin 2048) (v247 : FVec Ideal S256x256 .f32) (v249 : FVec Ideal S256x3072 .fp8e4m3) (v376 : Vec Ideal S3072x256 .fp8e4m3) (v379 : Vec Ideal S1x256 .f32) (v383 : Vec Ideal S3072x256 .fp8e4m3) (v386 : Vec Ideal S1x256 .f32)
    (h14 : v247 (ix2 r j) = Row.scale (Row.pre W a x))
    (h16 : ∀ k, v249 (ix2 r k) = Row.codes (Row.pre W a x) k)
    (hw1 : ∀ k, v376 (ix2 k j) = W.w1 k j')
    (hs1 : v379 (ix2 0 j) = W.s1 j')
    (hw3 : ∀ k, v383 (ix2 k j) = W.w3 k j')
    (hs3 : v386 (ix2 0 j) = W.s3 j') :
    k0_pay59 v247 v249 (k0_pay58 v247 v249 v376 v379) v383 v386 (ix2 r j) = Row.hid W a x j' := by
  pointwise [k0_pay59, k0_pay58]
  simp only [h14, h16, hw1, hs1, hw3, hs3]; rfl

theorem pay45_row (v257 v260 v262) : k0_pay45 (F := Ideal) v257 v260 v262 (ix2 r j) = k0_pay44 v257 v260 v262 (ix2 r j) := by
  pointwise [k0_pay45]

theorem pay47_row (v247 v249 v276 v279 v283 v286) : k0_pay47 (F := Ideal) v247 v249 v276 v279 v283 v286 (ix2 r j) = k0_pay46 v247 v249 v276 v279 v283 v286 (ix2 r j) := by
  pointwise [k0_pay47]

theorem pay51_row (v247 v249 v303 v304 v308 v311) : k0_pay51 (F := Ideal) v247 v249 v303 v304 v308 v311 (ix2 r j) = k0_pay50 v247 v249 v303 v304 v308 v311 (ix2 r j) := by
  pointwise [k0_pay51]

theorem pay56_row (v247 v249 v351 v354 v358 v361) : k0_pay56 (F := Ideal) v247 v249 v351 v354 v358 v361 (ix2 r j) = k0_pay55 v247 v249 v351 v354 v358 v361 (ix2 r j) := by
  pointwise [k0_pay56]

theorem pay60_row (v247 v249 v382 v383 v386) : k0_pay60 (F := Ideal) v247 v249 v382 v383 v386 (ix2 r j) = k0_pay59 v247 v249 v382 v383 v386 (ix2 r j) := by
  pointwise [k0_pay60]

theorem pay63_row (v247 v249 v401 v404 v408 v411) : k0_pay63 (F := Ideal) v247 v249 v401 v404 v408 v411 (ix2 r j) = k0_pay62 v247 v249 v401 v404 v408 v411 (ix2 r j) := by
  pointwise [k0_pay63]

theorem pay66_row (v247 v249 v426 v429 v433 v436) : k0_pay66 (F := Ideal) v247 v249 v426 v429 v433 v436 (ix2 r j) = k0_pay65 v247 v249 v426 v429 v433 v436 (ix2 r j) := by
  pointwise [k0_pay66]

theorem pay54_row (v342 : FVec Ideal S256x256 .f32) : k0_pay54 v342 (ix2 r j) = v342 (ix2 r j) := by
  pointwise [k0_pay54]

/-! ## The largest absolute value of the hidden row, lane by lane -/

section Lanes

variable (v : Fin 2048 → EReal)

theorem pay40_lane : Row.LaneMax v 0 (fun x => k0_pay40 (F := Ideal) (ix2 r x)) := by
  have e : (fun x : Fin 128 => k0_pay40 (F := Ideal) (ix2 r x)) = fun _ => 0 := by
    funext x; pointwise [k0_pay40]
  rw [e]; exact Row.LaneMax.zero v

theorem pay48_lane (v247 : FVec Ideal S256x256 .f32) (v249 : FVec Ideal S256x3072 .fp8e4m3) (v250 : Vec Ideal S256x128 .f32) (v257 : FVec Ideal S256x256 .f32) (v260 : FVec Ideal S256x256 .f32) (v262 : Vec Ideal S1x256 .f32) (v276 : Vec Ideal S3072x256 .fp8e4m3) (v279 : Vec Ideal S1x256 .f32) (v283 : Vec Ideal S3072x256 .fp8e4m3) (v286 : Vec Ideal S1x256 .f32)
    (hl : Row.LaneMax v 0 (fun x => v250 (ix2 r x)))
    (h0 : ∀ (j : Fin 256) (j' : Fin 2048), j'.val = 256 * 0 + j.val → k0_pay44 v257 v260 v262 (ix2 r j) = v j') (h1 : ∀ (j : Fin 256) (j' : Fin 2048), j'.val = 256 * 1 + j.val → k0_pay46 v247 v249 v276 v279 v283 v286 (ix2 r j) = v j') :
    Row.LaneMax v 2 (fun x => k0_pay48 v247 v249 v250 v257 v260 v262 v276 v279 v283 v286 (ix2 r x)) := by
  have e : (fun x : Fin 128 => k0_pay48 v247 v249 v250 v257 v260 v262 v276 v279 v283 v286 (ix2 r x)) = fun x => max (max (v250 (ix2 r x)) (max (Row.mag (v ⟨256 * 0 + x.val, by omega⟩)) (Row.mag (v ⟨256 * 0 + (128 + x.val), by omega⟩)))) (max (Row.mag (v ⟨256 * 1 + x.val, by omega⟩)) (Row.mag (v ⟨256 * 1 + (128 + x.val), by omega⟩))) := by
    funext x; pointwise [k0_pay48]
    rw [h0 ⟨128 + x.val, by omega⟩ ⟨256 * 0 + (128 + x.val), by omega⟩ rfl, h0 ⟨x.val, by omega⟩ ⟨256 * 0 + x.val, by omega⟩ rfl, h1 ⟨128 + x.val, by omega⟩ ⟨256 * 1 + (128 + x.val), by omega⟩ rfl, h1 ⟨x.val, by omega⟩ ⟨256 * 1 + x.val, by omega⟩ rfl]; simp only [Nat.mul_zero, Nat.zero_add, Nat.mul_one]
  rw [e]; exact (hl.step (by omega)).step (by omega)

theorem pay52_lane (v247 : FVec Ideal S256x256 .f32) (v249 : FVec Ideal S256x3072 .fp8e4m3) (v300 : Vec Ideal S256x128 .f32) (v303 : FVec Ideal S256x256 .f32) (v304 : Vec Ideal S1x256 .f32) (v308 : Vec Ideal S3072x256 .fp8e4m3) (v311 : Vec Ideal S1x256 .f32)
    (hl : Row.LaneMax v 2 (fun x => v300 (ix2 r x)))
    (h2 : ∀ (j : Fin 256) (j' : Fin 2048), j'.val = 256 * 2 + j.val → k0_pay50 v247 v249 v303 v304 v308 v311 (ix2 r j) = v j') :
    Row.LaneMax v 3 (fun x => k0_pay52 v247 v249 v300 v303 v304 v308 v311 (ix2 r x)) := by
  have e : (fun x : Fin 128 => k0_pay52 v247 v249 v300 v303 v304 v308 v311 (ix2 r x)) = fun x => max (v300 (ix2 r x)) (max (Row.mag (v ⟨256 * 2 + x.val, by omega⟩)) (Row.mag (v ⟨256 * 2 + (128 + x.val), by omega⟩))) := by
    funext x; pointwise [k0_pay52]
    rw [h2 ⟨128 + x.val, by omega⟩ ⟨256 * 2 + (128 + x.val), by omega⟩ rfl, h2 ⟨x.val, by omega⟩ ⟨256 * 2 + x.val, by omega⟩ rfl]
  rw [e]; exact hl.step (by omega)

theorem pay57_lane (v247 : FVec Ideal S256x256 .f32) (v249 : FVec Ideal S256x3072 .fp8e4m3) (v325 : Vec Ideal S256x128 .f32) (v342 : FVec Ideal S256x256 .f32) (v351 : Vec Ideal S3072x256 .fp8e4m3) (v354 : Vec Ideal S1x256 .f32) (v358 : Vec Ideal S3072x256 .fp8e4m3) (v361 : Vec Ideal S1x256 .f32)
    (hl : Row.LaneMax v 3 (fun x => v325 (ix2 r x)))
    (h3 : ∀ (j : Fin 256) (j' : Fin 2048), j'.val = 256 * 3 + j.val → v342 (ix2 r j) = v j') (h4 : ∀ (j : Fin 256) (j' : Fin 2048), j'.val = 256 * 4 + j.val → k0_pay55 v247 v249 v351 v354 v358 v361 (ix2 r j) = v j') :
    Row.LaneMax v 5 (fun x => k0_pay57 v247 v249 v325 v342 v351 v354 v358 v361 (ix2 r x)) := by
  have e : (fun x : Fin 128 => k0_pay57 v247 v249 v325 v342 v351 v354 v358 v361 (ix2 r x)) = fun x => max (max (v325 (ix2 r x)) (max (Row.mag (v ⟨256 * 3 + x.val, by omega⟩)) (Row.mag (v ⟨256 * 3 + (128 + x.val), by omega⟩)))) (max (Row.mag (v ⟨256 * 4 + x.val, by omega⟩)) (Row.mag (v ⟨256 * 4 + (128 + x.val), by omega⟩))) := by
    funext x; pointwise [k0_pay57]
    rw [h3 ⟨128 + x.val, by omega⟩ ⟨256 * 3 + (128 + x.val), by omega⟩ rfl, h3 ⟨x.val, by omega⟩ ⟨256 * 3 + x.val, by omega⟩ rfl, h4 ⟨128 + x.val, by omega⟩ ⟨256 * 4 + (128 + x.val), by omega⟩ rfl, h4 ⟨x.val, by omega⟩ ⟨256 * 4 + x.val, by omega⟩ rfl]
  rw [e]; exact (hl.step (by omega)).step (by omega)

theorem pay61_lane (v247 : FVec Ideal S256x256 .f32) (v249 : FVec Ideal S256x3072 .fp8e4m3) (v375 : Vec Ideal S256x128 .f32) (v382 : FVec Ideal S256x256 .f32) (v383 : Vec Ideal S3072x256 .fp8e4m3) (v386 : Vec Ideal S1x256 .f32)
    (hl : Row.LaneMax v 5 (fun x => v375 (ix2 r x)))
    (h5 : ∀ (j : Fin 256) (j' : Fin 2048), j'.val = 256 * 5 + j.val → k0_pay59 v247 v249 v382 v383 v386 (ix2 r j) = v j') :
    Row.LaneMax v 6 (fun x => k0_pay61 v247 v249 v375 v382 v383 v386 (ix2 r x)) := by
  have e : (fun x : Fin 128 => k0_pay61 v247 v249 v375 v382 v383 v386 (ix2 r x)) = fun x => max (v375 (ix2 r x)) (max (Row.mag (v ⟨256 * 5 + x.val, by omega⟩)) (Row.mag (v ⟨256 * 5 + (128 + x.val), by omega⟩))) := by
    funext x; pointwise [k0_pay61]
    rw [h5 ⟨128 + x.val, by omega⟩ ⟨256 * 5 + (128 + x.val), by omega⟩ rfl, h5 ⟨x.val, by omega⟩ ⟨256 * 5 + x.val, by omega⟩ rfl]
  rw [e]; exact hl.step (by omega)

/-- The hidden row's scale, along a row of 128. -/
theorem pay67_row (v247 : FVec Ideal S256x256 .f32) (v249 : FVec Ideal S256x3072 .fp8e4m3) (v400 : Vec Ideal S256x128 .f32) (v421 : FVec Ideal S256x256 .f32)
    (v426 : Vec Ideal S3072x256 .fp8e4m3) (v429 : Vec Ideal S1x256 .f32) (v433 : Vec Ideal S3072x256 .fp8e4m3) (v436 : Vec Ideal S1x256 .f32)
    (hl : Row.LaneMax v 6 (fun x => v400 (ix2 r x)))
    (h6 : ∀ (j : Fin 256) (j' : Fin 2048), j'.val = 256 * 6 + j.val → v421 (ix2 r j) = Row.mag (v j'))
    (h7 : ∀ (j : Fin 256) (j' : Fin 2048), j'.val = 256 * 7 + j.val → k0_pay65 v247 v249 v426 v429 v433 v436 (ix2 r j) = v j') (l : Fin 128) :
    k0_pay67 v247 v249 v400 v421 v426 v429 v433 v436 (ix2 r l) = Row.scale v := by
  have e := ((hl.step (by omega)).step (by omega)).amax
  pointwise [k0_pay67]
  show Row.toScale (Finset.fold max Row.negInf (fun x : Fin 128 =>
    max (max (v400 (ix2 r x)) (max (v421 (ix2 r ⟨x.val, by omega⟩)) (v421 (ix2 r ⟨128 + x.val, by omega⟩))))
      (max (Row.mag (k0_pay65 v247 v249 v426 v429 v433 v436 (ix2 r ⟨x.val, by omega⟩)))
        (Row.mag (k0_pay65 v247 v249 v426 v429 v433 v436 (ix2 r ⟨128 + x.val, by omega⟩))))) Finset.univ) = _
  refine congrArg Row.toScale (Eq.trans (congrArg (fun f => Finset.fold max Row.negInf f Finset.univ) (funext fun x => ?_)) e)
  rw [h6 ⟨128 + x.val, by omega⟩ ⟨256 * 6 + (128 + x.val), by omega⟩ rfl, h6 ⟨x.val, by omega⟩ ⟨256 * 6 + x.val, by omega⟩ rfl,
    h7 ⟨128 + x.val, by omega⟩ ⟨256 * 7 + (128 + x.val), by omega⟩ rfl, h7 ⟨x.val, by omega⟩ ⟨256 * 7 + x.val, by omega⟩ rfl]

end Lanes

theorem pay64_row (v247 : FVec Ideal S256x256 .f32) (v249 : FVec Ideal S256x3072 .fp8e4m3)
    (v401 : Vec Ideal S3072x256 .fp8e4m3) (v404 : Vec Ideal S1x256 .f32) (v408 : Vec Ideal S3072x256 .fp8e4m3) (v411 : Vec Ideal S1x256 .f32) :
    k0_pay64 v247 v249 v401 v404 v408 v411 (ix2 r j) = Row.mag (k0_pay62 v247 v249 v401 v404 v408 v411 (ix2 r j)) := by
  pointwise [k0_pay64]

theorem pay68_row (v460 : FVec Ideal S256x128 .f32) (l : Fin 128) : k0_pay68 v460 (ix2 r l) = v460 (ix2 r l) := by
  pointwise [k0_pay68]

/-! ## The twelve column groups of the result -/

theorem o0_row (j' : Fin 3072) (v476 : Vec Ideal S256x128 .f32) (v477 : Vec Ideal S256x128 .f32) (v479 : Vec Ideal S1x256x2048 .fp8e4m3) (v481 : Vec Ideal S2048x256 .fp8e4m3) (v484 : Vec Ideal S1x256 .f32) (v488 : Vec Ideal S256x256 .f32) (v489 : Vec Ideal S1x1x256 .f32)
    (h14 : k0_pay71 v476 v477 (ix2 r j) = Row.scale (Row.hid W a x))
    (h16 : ∀ k, k0_pay72 v479 (ix2 r k) = Row.codes (Row.hid W a x) k)
    (hw : ∀ k, v481 (ix2 k j) = W.w2 k j')
    (hs : v484 (ix2 0 j) = W.s2 j')
    (hy : v488 (ix2 r j) = Row.mid W a x j')
    (hg : v489 (ix3 0 0 j) = W.g2 j') :
    k0_pay74 (k0_pay73 v476 v477 v479 v481 v484 v488 v489) (ix3 0 r j) = Row.out W a x j' := by
  pointwise [k0_pay74, k0_pay73]
  simp only [h14, h16, hw, hs, hy, hg]; rfl

theorem o1_row (j' : Fin 3072) (v478 : FVec Ideal S256x256 .f32) (v480 : FVec Ideal S256x2048 .fp8e4m3) (v498 : Vec Ideal S2048x256 .fp8e4m3) (v501 : Vec Ideal S1x256 .f32) (v505 : Vec Ideal S256x256 .f32) (v506 : Vec Ideal S1x1x256 .f32)
    (h14 : v478 (ix2 r j) = Row.scale (Row.hid W a x))
    (h16 : ∀ k, v480 (ix2 r k) = Row.codes (Row.hid W a x) k)
    (hw : ∀ k, v498 (ix2 k j) = W.w2 k j')
    (hs : v501 (ix2 0 j) = W.s2 j')
    (hy : v505 (ix2 r j) = Row.mid W a x j')
    (hg : v506 (ix3 0 0 j) = W.g2 j') :
    k0_pay75 v478 v480 v498 v501 v505 v506 (ix3 0 r j) = Row.out W a x j' := by
  pointwise [k0_pay75]
  simp only [h14, h16, hw, hs, hy, hg]; rfl

theorem o2_row (j' : Fin 3072) (v478 : FVec Ideal S256x256 .f32) (v480 : FVec Ideal S256x2048 .fp8e4m3) (v515 : Vec Ideal S2048x256 .fp8e4m3) (v518 : Vec Ideal S1x256 .f32) (v522 : Vec Ideal S256x256 .f32) (v523 : Vec Ideal S1x1x256 .f32)
    (h14 : v478 (ix2 r j) = Row.scale (Row.hid W a x))
    (h16 : ∀ k, v480 (ix2 r k) = Row.codes (Row.hid W a x) k)
    (hw : ∀ k, v515 (ix2 k j) = W.w2 k j')
    (hs : v518 (ix2 0 j) = W.s2 j')
    (hy : v522 (ix2 r j) = Row.mid W a x j')
    (hg : v523 (ix3 0 0 j) = W.g2 j') :
    k0_pay77 v522 (k0_pay76 v478 v480 v515 v518 v523) (ix3 0 r j) = Row.out W a x j' := by
  pointwise [k0_pay77, k0_pay76]
  simp only [h14, h16, hw, hs, hy, hg]; rfl

theorem o3_row (j' : Fin 3072) (v478 : FVec Ideal S256x256 .f32) (v480 : FVec Ideal S256x2048 .fp8e4m3) (v532 : Vec Ideal S2048x256 .fp8e4m3) (v535 : Vec Ideal S1x256 .f32) (v539 : Vec Ideal S256x256 .f32) (v540 : Vec Ideal S1x1x256 .f32)
    (h14 : v478 (ix2 r j) = Row.scale (Row.hid W a x))
    (h16 : ∀ k, v480 (ix2 r k) = Row.codes (Row.hid W a x) k)
    (hw : ∀ k, v532 (ix2 k j) = W.w2 k j')
    (hs : v535 (ix2 0 j) = W.s2 j')
    (hy : v539 (ix2 r j) = Row.mid W a x j')
    (hg : v540 (ix3 0 0 j) = W.g2 j') :
    k0_pay78 v478 v480 v532 v535 v539 v540 (ix3 0 r j) = Row.out W a x j' := by
  pointwise [k0_pay78]
  simp only [h14, h16, hw, hs, hy, hg]; rfl

theorem o4_row (j' : Fin 3072) (v478 : FVec Ideal S256x256 .f32) (v480 : FVec Ideal S256x2048 .fp8e4m3) (v549 : Vec Ideal S2048x256 .fp8e4m3) (v552 : Vec Ideal S1x256 .f32) (v556 : Vec Ideal S256x256 .f32) (v557 : Vec Ideal S1x1x256 .f32)
    (h14 : v478 (ix2 r j) = Row.scale (Row.hid W a x))
    (h16 : ∀ k, v480 (ix2 r k) = Row.codes (Row.hid W a x) k)
    (hw : ∀ k, v549 (ix2 k j) = W.w2 k j')
    (hs : v552 (ix2 0 j) = W.s2 j')
    (hy : v556 (ix2 r j) = Row.mid W a x j')
    (hg : v557 (ix3 0 0 j) = W.g2 j') :
    k0_pay81 (k0_pay79 v478 v480 v549 v552) v556 (k0_pay80 v557) (ix3 0 r j) = Row.out W a x j' := by
  pointwise [k0_pay81, k0_pay79, k0_pay80]
  simp only [h14, h16, hw, hs, hy, hg]; rfl

theorem o5_row (j' : Fin 3072) (v478 : FVec Ideal S256x256 .f32) (v480 : FVec Ideal S256x2048 .fp8e4m3) (v566 : Vec Ideal S2048x256 .fp8e4m3) (v569 : Vec Ideal S1x256 .f32) (v573 : Vec Ideal S256x256 .f32) (v574 : Vec Ideal S1x1x256 .f32)
    (h14 : v478 (ix2 r j) = Row.scale (Row.hid W a x))
    (h16 : ∀ k, v480 (ix2 r k) = Row.codes (Row.hid W a x) k)
    (hw : ∀ k, v566 (ix2 k j) = W.w2 k j')
    (hs : v569 (ix2 0 j) = W.s2 j')
    (hy : v573 (ix2 r j) = Row.mid W a x j')
    (hg : v574 (ix3 0 0 j) = W.g2 j') :
    k0_pay82 v478 v480 v566 v569 v573 v574 (ix3 0 r j) = Row.out W a x j' := by
  pointwise [k0_pay82]
  simp only [h14, h16, hw, hs, hy, hg]; rfl

theorem o6_row (j' : Fin 3072) (v478 : FVec Ideal S256x256 .f32) (v480 : FVec Ideal S256x2048 .fp8e4m3) (v583 : Vec Ideal S2048x256 .fp8e4m3) (v586 : Vec Ideal S1x256 .f32) (v590 : Vec Ideal S256x256 .f32) (v591 : Vec Ideal S1x1x256 .f32)
    (h14 : v478 (ix2 r j) = Row.scale (Row.hid W a x))
    (h16 : ∀ k, v480 (ix2 r k) = Row.codes (Row.hid W a x) k)
    (hw : ∀ k, v583 (ix2 k j) = W.w2 k j')
    (hs : v586 (ix2 0 j) = W.s2 j')
    (hy : v590 (ix2 r j) = Row.mid W a x j')
    (hg : v591 (ix3 0 0 j) = W.g2 j') :
    k0_pay84 (k0_pay83 v478 v480 v583 v586) v590 v591 (ix3 0 r j) = Row.out W a x j' := by
  pointwise [k0_pay84, k0_pay83]
  simp only [h14, h16, hw, hs, hy, hg]; rfl

theorem o7_row (j' : Fin 3072) (v478 : FVec Ideal S256x256 .f32) (v480 : FVec Ideal S256x2048 .fp8e4m3) (v600 : Vec Ideal S2048x256 .fp8e4m3) (v603 : Vec Ideal S1x256 .f32) (v607 : Vec Ideal S256x256 .f32) (v608 : Vec Ideal S1x1x256 .f32)
    (h14 : v478 (ix2 r j) = Row.scale (Row.hid W a x))
    (h16 : ∀ k, v480 (ix2 r k) = Row.codes (Row.hid W a x) k)
    (hw : ∀ k, v600 (ix2 k j) = W.w2 k j')
    (hs : v603 (ix2 0 j) = W.s2 j')
    (hy : v607 (ix2 r j) = Row.mid W a x j')
    (hg : v608 (ix3 0 0 j) = W.g2 j') :
    k0_pay85 v478 v480 v600 v603 v607 v608 (ix3 0 r j) = Row.out W a x j' := by
  pointwise [k0_pay85]
  simp only [h14, h16, hw, hs, hy, hg]; rfl

theorem o8_row (j' : Fin 3072) (v478 : FVec Ideal S256x256 .f32) (v480 : FVec Ideal S256x2048 .fp8e4m3) (v617 : Vec Ideal S2048x256 .fp8e4m3) (v620 : Vec Ideal S1x256 .f32) (v624 : Vec Ideal S256x256 .f32) (v625 : Vec Ideal S1x1x256 .f32)
    (h14 : v478 (ix2 r j) = Row.scale (Row.hid W a x))
    (h16 : ∀ k, v480 (ix2 r k) = Row.codes (Row.hid W a x) k)
    (hw : ∀ k, v617 (ix2 k j) = W.w2 k j')
    (hs : v620 (ix2 0 j) = W.s2 j')
    (hy : v624 (ix2 r j) = Row.mid W a x j')
    (hg : v625 (ix3 0 0 j) = W.g2 j') :
    k0_pay87 (k0_pay86 v478 v480 v617 v620) v624 v625 (ix3 0 r j) = Row.out W a x j' := by
  pointwise [k0_pay87, k0_pay86]
  simp only [h14, h16, hw, hs, hy, hg]; rfl

theorem o9_row (j' : Fin 3072) (v478 : FVec Ideal S256x256 .f32) (v480 : FVec Ideal S256x2048 .fp8e4m3) (v634 : Vec Ideal S2048x256 .fp8e4m3) (v637 : Vec Ideal S1x256 .f32) (v641 : Vec Ideal S256x256 .f32) (v642 : Vec Ideal S1x1x256 .f32)
    (h14 : v478 (ix2 r j) = Row.scale (Row.hid W a x))
    (h16 : ∀ k, v480 (ix2 r k) = Row.codes (Row.hid W a x) k)
    (hw : ∀ k, v634 (ix2 k j) = W.w2 k j')
    (hs : v637 (ix2 0 j) = W.s2 j')
    (hy : v641 (ix2 r j) = Row.mid W a x j')
    (hg : v642 (ix3 0 0 j) = W.g2 j') :
    k0_pay88 v478 v480 v634 v637 v641 v642 (ix3 0 r j) = Row.out W a x j' := by
  pointwise [k0_pay88]
  simp only [h14, h16, hw, hs, hy, hg]; rfl

theorem o10_row (j' : Fin 3072) (v478 : FVec Ideal S256x256 .f32) (v480 : FVec Ideal S256x2048 .fp8e4m3) (v651 : Vec Ideal S2048x256 .fp8e4m3) (v654 : Vec Ideal S1x256 .f32) (v658 : Vec Ideal S256x256 .f32) (v659 : Vec Ideal S1x1x256 .f32)
    (h14 : v478 (ix2 r j) = Row.scale (Row.hid W a x))
    (h16 : ∀ k, v480 (ix2 r k) = Row.codes (Row.hid W a x) k)
    (hw : ∀ k, v651 (ix2 k j) = W.w2 k j')
    (hs : v654 (ix2 0 j) = W.s2 j')
    (hy : v658 (ix2 r j) = Row.mid W a x j')
    (hg : v659 (ix3 0 0 j) = W.g2 j') :
    k0_pay90 (k0_pay89 v478 v480 v651 v654) v658 v659 (ix3 0 r j) = Row.out W a x j' := by
  pointwise [k0_pay90, k0_pay89]
  simp only [h14, h16, hw, hs, hy, hg]; rfl

theorem o11_row (j' : Fin 3072) (v478 : FVec Ideal S256x256 .f32) (v480 : FVec Ideal S256x2048 .fp8e4m3) (v668 : Vec Ideal S2048x256 .fp8e4m3) (v671 : Vec Ideal S1x256 .f32) (v675 : Vec Ideal S256x256 .f32) (v676 : Vec Ideal S1x1x256 .f32)
    (h14 : v478 (ix2 r j) = Row.scale (Row.hid W a x))
    (h16 : ∀ k, v480 (ix2 r k) = Row.codes (Row.hid W a x) k)
    (hw : ∀ k, v668 (ix2 k j) = W.w2 k j')
    (hs : v671 (ix2 0 j) = W.s2 j')
    (hy : v675 (ix2 r j) = Row.mid W a x j')
    (hg : v676 (ix3 0 0 j) = W.g2 j') :
    k0_pay1 (k0_pay91 v478 v480 v668 v671 v675 v676) (ix3 0 r j) = Row.out W a x j' := by
  pointwise [k0_pay1, k0_pay91]
  simp only [h14, h16, hw, hs, hy, hg]; rfl

end Cert.KernelIdeal.Hand

end
-- ==== Proof.Loop1.lean ====
/-
  The first row loop: 32 rows of the attention output at a time, their codes and their scales.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import proofs.«01_k».proof.Proof.Rows

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-- Before trip `k`: the attention rows are read as they are, and the rows below `32 k` of the three results hold the rows,
    their codes and their scales. -/
def inv1 (c : Dev nD) (arg2 : Memref sig .tc .vmem S1536x128 .f32) (harg2 : arg2.IsWhole) (arg12 : Memref sig .tc .vmem S1x256x768 .bf16) (harg12 : arg12.IsWhole) (arg14 : Memref sig .tc .vmem S1x256x768 .fp8e4m3) (harg14 : arg14.IsWhole) (arg22 : Memref sig .tc .vmem S256x128 .f32) (harg22 : arg22.IsWhole) (x1 : Vec Ideal S1536x128 .f32) (k : ℕ) (_ : Unit) : sProp 𝕄 :=
  iprop((arg2.view.loc (c : Thread nD τ) ↦[arg2.view.set]{fullShare} harg2.unread x1)
    ∗ (∃ f, (arg12.view.loc (c : Thread nD τ) ↦[arg12.view.set]{fullShare} f) ∗ ⌜Rows3 arg12.view (32 * k) (fun r j => att x1 r j) f⌝)
    ∗ (∃ f, (arg14.view.loc (c : Thread nD τ) ↦[arg14.view.set]{fullShare} f) ∗ ⌜Rows3 arg14.view (32 * k) (fun r j => Row.codes (att x1 r) j) f⌝)
    ∗ (∃ f, (arg22.view.loc (c : Thread nD τ) ↦[arg22.view.set]{fullShare} f) ∗ ⌜Rows2 arg22.view (32 * k) (fun r _ => Row.scale (att x1 r)) f⌝))

/-- A strided load of one head's slice reads row `32 k + r` of the attention output there. -/
theorem ld_att (arg2 : Memref sig .tc .vmem S1536x128 .f32) (harg2 : arg2.IsWhole) (x1 : Vec Ideal S1536x128 .f32) (k q : ℕ) (hq : q < 6) (hk : k < 8)
    {off : Fin 2 → ℕ} (hoff : off = ![192 * k + q, 0]) (inb) (r : Fin 32) (l : Fin 128) (r' : Fin 256) (hr : r'.val = 32 * k + r.val) :
    View.readAt (Elt Ideal) arg2.view (⟨off, S32x128.size, ![6, 1], inb⟩ : LoadRect S1536x128) (harg2.unread x1) (ix2 r l)
      = att x1 r' ⟨128 * q + l.val, by omega⟩ := by
  subst hoff
  show arg2.view.read (Elt Ideal) (harg2.unread x1) _ = _
  rw [harg2.read_unread]
  unfold att
  refine congrArg x1 (funext fun a => Fin.ext ?_)
  fin_cases a
  · show 192 * k + q + 6 * r.val = 6 * r'.val + (128 * q + l.val) / 128
    omega
  · show 0 + 1 * l.val = (128 * q + l.val) % 128
    omega

variable (c : Dev nD) (i : grid0.Coords) (arg1 : Memref sig .tc .vmem S1x256x3072 .bf16) (harg1 : arg1.IsWhole) (arg2 : Memref sig .tc .vmem S1536x128 .f32) (harg2 : arg2.IsWhole) (arg3 : Memref sig .tc .vmem S6x1x3072 .f32) (harg3 : arg3.IsWhole) (arg4 : Memref sig .tc .vmem S768x3072 .fp8e4m3) (harg4 : arg4.IsWhole) (arg5 : Memref sig .tc .vmem S1x3072 .f32) (harg5 : arg5.IsWhole) (arg6 : Memref sig .tc .vmem S3072x2048 .fp8e4m3) (harg6 : arg6.IsWhole) (arg7 : Memref sig .tc .vmem S1x2048 .f32) (harg7 : arg7.IsWhole) (arg8 : Memref sig .tc .vmem S3072x2048 .fp8e4m3) (harg8 : arg8.IsWhole) (arg9 : Memref sig .tc .vmem S1x2048 .f32) (harg9 : arg9.IsWhole) (arg10 : Memref sig .tc .vmem S2048x3072 .fp8e4m3) (harg10 : arg10.IsWhole) (arg11 : Memref sig .tc .vmem S1x3072 .f32) (harg11 : arg11.IsWhole) (arg12 : Memref sig .tc .vmem S1x256x768 .bf16) (harg12 : arg12.IsWhole) (arg13 : Memref sig .tc .vmem S1x256x3072 .bf16) (harg13 : arg13.IsWhole) (arg14 : Memref sig .tc .vmem S1x256x768 .fp8e4m3) (harg14 : arg14.IsWhole) (arg15 : Memref sig .tc .vmem S1x256 .f32) (harg15 : arg15.IsWhole) (arg16 : Memref sig .tc .vmem S1x256x3072 .fp8e4m3) (harg16 : arg16.IsWhole) (arg17 : Memref sig .tc .vmem S1x256 .f32) (harg17 : arg17.IsWhole) (arg18 : Memref sig .tc .vmem S1x256x2048 .fp8e4m3) (harg18 : arg18.IsWhole) (arg19 : Memref sig .tc .vmem S1x256 .f32) (harg19 : arg19.IsWhole) (arg20 : Memref sig .tc .vmem S256x3072 .f32) (harg20 : arg20.IsWhole) (arg21 : Memref sig .tc .vmem S256x2048 .f32) (harg21 : arg21.IsWhole) (arg22 : Memref sig .tc .vmem S256x128 .f32) (harg22 : arg22.IsWhole) (arg23 : Memref sig .tc .vmem S256x128 .f32) (harg23 : arg23.IsWhole)

set_option maxHeartbeats 1000000 in
/-- One trip. -/
theorem trip1 (E : Set ℕ) (x1 : Vec Ideal S1536x128 .f32) (k : Fin k0_t1_loop.trips) (u : Unit) :
    inv1 c arg2 harg2 arg12 harg12 arg14 harg14 arg22 harg22 x1 k.val u ⊢
      wp frame (wpE (defs₀ (F := Ideal)) Variants.none (c : Thread nD τ) none) E (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k u)
        (inv1 c arg2 harg2 arg12 harg12 arg14 harg14 arg22 harg22 x1 (k.val + 1)) := by
  have hk : k.val < 8 := Nat.lt_of_lt_of_le k.isLt k0_t1_abs.2.1
  unfold inv1 k0_t1_body
  iintro ⟨H2, ⟨%f12, H12, %h12⟩, ⟨%f14, H14, %h14⟩, ⟨%f22, H22, %h22⟩⟩
  sl_exec
  sl_step
  have hp : ∀ (r : Fin 32) (r' : Fin 256), r'.val = 32 * k.val + r.val → ∀ j, trip1.sl.r arg2 harg2 x1 k (ix2 r j) = att x1 r' j :=
    fun r r' hr => pay2_row _ _ _ _ _ _ _ r
      (fun l => (ld_att arg2 harg2 x1 k.val 0 (by omega) hk (k0_off1_eq k 0) _ r l r' hr).trans (congrArg (att x1 r') (Fin.ext (by simp))))
      (fun l => ld_att arg2 harg2 x1 k.val 1 (by omega) hk (k0_off1_eq k 1) _ r l r' hr)
      (fun l => ld_att arg2 harg2 x1 k.val 2 (by omega) hk (k0_off1_eq k 2) _ r l r' hr)
      (fun l => ld_att arg2 harg2 x1 k.val 3 (by omega) hk (k0_off1_eq k 3) _ r l r' hr)
      (fun l => ld_att arg2 harg2 x1 k.val 4 (by omega) hk (k0_off1_eq k 4) _ r l r' hr)
      (fun l => ld_att arg2 harg2 x1 k.val 5 (by omega) hk (k0_off1_eq k 5) _ r l r' hr)
  have hm : ∀ (r : Fin 32) (r' : Fin 256), r'.val = 32 * k.val + r.val → trip1.sl.r_1 arg2 harg2 x1 k (ix2 r 0) = Row.amax (att x1 r') :=
    fun r r' hr => pay4_row _ _ _ _ _ _ _ r (hp r r' hr)
  isplitl [H2]; · iexact H2
  isplitl [H12]
  · iexists _; isplitl [H12]; · iexact H12
    ipureintro
    exact h12.step _ _ (k0_off2_eq k) fun r j r' hr => pay3_row _ _ _ _ _ _ _ r j (hp r r' hr)
  isplitl [H14]
  · iexists _; isplitl [H14]; · iexact H14
    ipureintro
    exact h14.step _ _ (k0_off2_eq k) fun r j r' hr => pay9_row _ _ _ r (hp r r' hr) (hm r r' hr) j
  iexists _; isplitl [H22]; · iexact H22
  ipureintro
  exact h22.step _ _ (k0_off3_eq k) fun r j r' hr => pay10_row _ _ r (hm r r' hr) j

end Cert.KernelIdeal.Hand

end
-- ==== Proof.Loop2.lean ====
/-
  The second row loop: 32 rows normalised and modulated at a time, their codes and their scales.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import proofs.«01_k».proof.Proof.Rows

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-- Before trip `k`: the rows `Y` and the modulation are read as they are, and the rows below `32 k` of the two results hold
    the codes and the scales of the normalised rows. -/
def inv2 (c : Dev nD) (arg3 : Memref sig .tc .vmem S6x1x3072 .f32) (harg3 : arg3.IsWhole) (arg16 : Memref sig .tc .vmem S1x256x3072 .fp8e4m3) (harg16 : arg16.IsWhole) (arg20 : Memref sig .tc .vmem S256x3072 .f32) (harg20 : arg20.IsWhole) (arg22 : Memref sig .tc .vmem S256x128 .f32) (harg22 : arg22.IsWhole) (x2 : Vec Ideal S6x1x3072 .f32) (Y : Fin 256 → Fin 3072 → EReal) (k : ℕ) (_ : Unit) : sProp 𝕄 :=
  iprop((arg3.view.loc (c : Thread nD τ) ↦[arg3.view.set]{fullShare} harg3.unread x2)
    ∗ (∃ f, (arg20.view.loc (c : Thread nD τ) ↦[arg20.view.set]{fullShare} f) ∗ ⌜Rows2 arg20.view 256 Y f⌝)
    ∗ (∃ f, (arg16.view.loc (c : Thread nD τ) ↦[arg16.view.set]{fullShare} f) ∗ ⌜Rows3 arg16.view (32 * k)
        (fun r j => Row.codes (Row.normed (Y r) (fun j => x2 (ix3 4 0 j)) (fun j => x2 (ix3 3 0 j))) j) f⌝)
    ∗ (∃ f, (arg22.view.loc (c : Thread nD τ) ↦[arg22.view.set]{fullShare} f) ∗ ⌜Rows2 arg22.view (32 * k)
        (fun r _ => Row.scale (Row.normed (Y r) (fun j => x2 (ix3 4 0 j)) (fun j => x2 (ix3 3 0 j)))) f⌝))

variable (c : Dev nD) (i : grid0.Coords) (arg1 : Memref sig .tc .vmem S1x256x3072 .bf16) (harg1 : arg1.IsWhole) (arg2 : Memref sig .tc .vmem S1536x128 .f32) (harg2 : arg2.IsWhole) (arg3 : Memref sig .tc .vmem S6x1x3072 .f32) (harg3 : arg3.IsWhole) (arg4 : Memref sig .tc .vmem S768x3072 .fp8e4m3) (harg4 : arg4.IsWhole) (arg5 : Memref sig .tc .vmem S1x3072 .f32) (harg5 : arg5.IsWhole) (arg6 : Memref sig .tc .vmem S3072x2048 .fp8e4m3) (harg6 : arg6.IsWhole) (arg7 : Memref sig .tc .vmem S1x2048 .f32) (harg7 : arg7.IsWhole) (arg8 : Memref sig .tc .vmem S3072x2048 .fp8e4m3) (harg8 : arg8.IsWhole) (arg9 : Memref sig .tc .vmem S1x2048 .f32) (harg9 : arg9.IsWhole) (arg10 : Memref sig .tc .vmem S2048x3072 .fp8e4m3) (harg10 : arg10.IsWhole) (arg11 : Memref sig .tc .vmem S1x3072 .f32) (harg11 : arg11.IsWhole) (arg12 : Memref sig .tc .vmem S1x256x768 .bf16) (harg12 : arg12.IsWhole) (arg13 : Memref sig .tc .vmem S1x256x3072 .bf16) (harg13 : arg13.IsWhole) (arg14 : Memref sig .tc .vmem S1x256x768 .fp8e4m3) (harg14 : arg14.IsWhole) (arg15 : Memref sig .tc .vmem S1x256 .f32) (harg15 : arg15.IsWhole) (arg16 : Memref sig .tc .vmem S1x256x3072 .fp8e4m3) (harg16 : arg16.IsWhole) (arg17 : Memref sig .tc .vmem S1x256 .f32) (harg17 : arg17.IsWhole) (arg18 : Memref sig .tc .vmem S1x256x2048 .fp8e4m3) (harg18 : arg18.IsWhole) (arg19 : Memref sig .tc .vmem S1x256 .f32) (harg19 : arg19.IsWhole) (arg20 : Memref sig .tc .vmem S256x3072 .f32) (harg20 : arg20.IsWhole) (arg21 : Memref sig .tc .vmem S256x2048 .f32) (harg21 : arg21.IsWhole) (arg22 : Memref sig .tc .vmem S256x128 .f32) (harg22 : arg22.IsWhole) (arg23 : Memref sig .tc .vmem S256x128 .f32) (harg23 : arg23.IsWhole)

set_option maxHeartbeats 1000000 in
/-- One trip. -/
theorem trip2 (E : Set ℕ) (x2 : Vec Ideal S6x1x3072 .f32) (Y : Fin 256 → Fin 3072 → EReal) (k : Fin k0_t2_loop.trips) (u : Unit) :
    inv2 c arg3 harg3 arg16 harg16 arg20 harg20 arg22 harg22 x2 Y k.val u ⊢
      wp frame (wpE (defs₀ (F := Ideal)) Variants.none (c : Thread nD τ) none) E (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 4#32 k u)
        (inv2 c arg3 harg3 arg16 harg16 arg20 harg20 arg22 harg22 x2 Y (k.val + 1)) := by
  have hk : k.val < 8 := Nat.lt_of_lt_of_le k.isLt k0_t2_abs.2.1
  unfold inv2 k0_t2_body
  iintro ⟨H3, ⟨%f20, H20, %h20⟩, ⟨%f16, H16, %h16⟩, ⟨%f22, H22, %h22⟩⟩
  sl_exec
  sl_step
  have hb : ∀ (q : Fin 6) (off : Fin 3 → ℕ) (inb) (j : Fin 3072), off = ![q.val, 0, 0] →
      View.readAt (Elt Ideal) arg3.view (Rect.unit (s := S6x1x3072) off S1x1x3072.size inb).toLoadRect (harg3.unread x2) (ix3 0 0 j)
        = x2 (ix3 q 0 j) := by
    rintro q _ inb j rfl
    show arg3.view.read (Elt Ideal) (harg3.unread x2) _ = _
    rw [harg3.read_unread]
    refine congrArg x2 (funext fun a => Fin.ext ?_)
    fin_cases a
    · rfl
    · rfl
    · show 0 + 1 * j.val = j.val; omega
  have hp := fun (r : Fin 32) (r' : Fin 256) (hr : r'.val = 32 * k.val + r.val) =>
    pay5_row (View.readAt (Elt Ideal) arg20.view (Rect.unit (s := S256x3072) (k0_off4 k) S32x3072.size (k0_off4_inb k)).toLoadRect f20)
      (View.readAt (Elt Ideal) arg3.view (Rect.unit (s := S6x1x3072) ![4, 0, 0] S1x1x3072.size inb_S6x1x3072_S1x1x3072_4_0_0).toLoadRect (harg3.unread x2))
      (View.readAt (Elt Ideal) arg3.view (Rect.unit (s := S6x1x3072) ![3, 0, 0] S1x1x3072.size inb_S6x1x3072_S1x1x3072_3_0_0).toLoadRect (harg3.unread x2))
      (Y r') (fun j => x2 (ix3 4 0 j)) (fun j => x2 (ix3 3 0 j)) r
      (fun j => h20.ld (k0_off4_eq k) _ r j r' j hr (by omega) r'.isLt)
      (fun j => hb 4 _ _ j rfl) (fun j => hb 3 _ _ j rfl)
  isplitl [H3]; · iexact H3
  isplitl [H20]
  · iexists _; isplitl [H20]; · iexact H20
    ipureintro; exact h20
  isplitl [H16]
  · iexists _; isplitl [H16]; · iexact H16
    ipureintro
    exact h16.step _ _ (k0_off5_eq k) fun r j r' hr => pay7_row _ _ _ _ _ _ r (hp r r' hr) j
  iexists _; isplitl [H22]; · iexact H22
  ipureintro
  exact h22.step _ _ (k0_off6_eq k) fun r j r' hr =>
    (pay36_row _ _ _ r j).trans (pay6_row _ _ _ _ _ _ r (hp r r' hr))

end Cert.KernelIdeal.Hand

end
-- ==== Proof.Loop3.lean ====
/-
  The third row loop: the codes of 32 rows of the hidden activations at a time.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import proofs.«01_k».proof.Proof.Rows

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-- Before trip `k`: the rows `H` and the scales `s` are read as they are, and the rows below `32 k` of the result hold the
    codes. -/
def inv3 (c : Dev nD) (arg18 : Memref sig .tc .vmem S1x256x2048 .fp8e4m3) (harg18 : arg18.IsWhole) (arg21 : Memref sig .tc .vmem S256x2048 .f32) (harg21 : arg21.IsWhole) (arg22 : Memref sig .tc .vmem S256x128 .f32) (harg22 : arg22.IsWhole) (H : Fin 256 → Fin 2048 → EReal) (s : Fin 256 → EReal) (k : ℕ) (_ : Unit) : sProp 𝕄 :=
  iprop((∃ f, (arg21.view.loc (c : Thread nD τ) ↦[arg21.view.set]{fullShare} f) ∗ ⌜Rows2 arg21.view 256 H f⌝)
    ∗ (∃ f, (arg22.view.loc (c : Thread nD τ) ↦[arg22.view.set]{fullShare} f) ∗ ⌜Rows2 arg22.view 256 (fun r _ => s r) f⌝)
    ∗ (∃ f, (arg18.view.loc (c : Thread nD τ) ↦[arg18.view.set]{fullShare} f) ∗ ⌜Rows3 arg18.view (32 * k) (fun r j => Row.code (H r j) (s r)) f⌝))

variable (c : Dev nD) (i : grid0.Coords) (arg1 : Memref sig .tc .vmem S1x256x3072 .bf16) (harg1 : arg1.IsWhole) (arg2 : Memref sig .tc .vmem S1536x128 .f32) (harg2 : arg2.IsWhole) (arg3 : Memref sig .tc .vmem S6x1x3072 .f32) (harg3 : arg3.IsWhole) (arg4 : Memref sig .tc .vmem S768x3072 .fp8e4m3) (harg4 : arg4.IsWhole) (arg5 : Memref sig .tc .vmem S1x3072 .f32) (harg5 : arg5.IsWhole) (arg6 : Memref sig .tc .vmem S3072x2048 .fp8e4m3) (harg6 : arg6.IsWhole) (arg7 : Memref sig .tc .vmem S1x2048 .f32) (harg7 : arg7.IsWhole) (arg8 : Memref sig .tc .vmem S3072x2048 .fp8e4m3) (harg8 : arg8.IsWhole) (arg9 : Memref sig .tc .vmem S1x2048 .f32) (harg9 : arg9.IsWhole) (arg10 : Memref sig .tc .vmem S2048x3072 .fp8e4m3) (harg10 : arg10.IsWhole) (arg11 : Memref sig .tc .vmem S1x3072 .f32) (harg11 : arg11.IsWhole) (arg12 : Memref sig .tc .vmem S1x256x768 .bf16) (harg12 : arg12.IsWhole) (arg13 : Memref sig .tc .vmem S1x256x3072 .bf16) (harg13 : arg13.IsWhole) (arg14 : Memref sig .tc .vmem S1x256x768 .fp8e4m3) (harg14 : arg14.IsWhole) (arg15 : Memref sig .tc .vmem S1x256 .f32) (harg15 : arg15.IsWhole) (arg16 : Memref sig .tc .vmem S1x256x3072 .fp8e4m3) (harg16 : arg16.IsWhole) (arg17 : Memref sig .tc .vmem S1x256 .f32) (harg17 : arg17.IsWhole) (arg18 : Memref sig .tc .vmem S1x256x2048 .fp8e4m3) (harg18 : arg18.IsWhole) (arg19 : Memref sig .tc .vmem S1x256 .f32) (harg19 : arg19.IsWhole) (arg20 : Memref sig .tc .vmem S256x3072 .f32) (harg20 : arg20.IsWhole) (arg21 : Memref sig .tc .vmem S256x2048 .f32) (harg21 : arg21.IsWhole) (arg22 : Memref sig .tc .vmem S256x128 .f32) (harg22 : arg22.IsWhole) (arg23 : Memref sig .tc .vmem S256x128 .f32) (harg23 : arg23.IsWhole)

set_option maxHeartbeats 1000000 in
/-- One trip. -/
theorem trip3 (E : Set ℕ) (v460 : FVec Ideal S256x128 .f32) (H : Fin 256 → Fin 2048 → EReal) (s : Fin 256 → EReal) (k : Fin k0_t3_loop.trips) (u : Unit) :
    inv3 c arg18 harg18 arg21 harg21 arg22 harg22 H s k.val u ⊢
      wp frame (wpE (defs₀ (F := Ideal)) Variants.none (c : Thread nD τ) none) E (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v460 k u)
        (inv3 c arg18 harg18 arg21 harg21 arg22 harg22 H s (k.val + 1)) := by
  have hk : k.val < 8 := Nat.lt_of_lt_of_le k.isLt k0_t3_abs.2.1
  unfold inv3 k0_t3_body
  iintro ⟨⟨%f21, H21, %h21⟩, ⟨%f22, H22, %h22⟩, ⟨%f18, H18, %h18⟩⟩
  sl_exec
  sl_step
  isplitl [H21]
  · iexists _; isplitl [H21]; · iexact H21
    ipureintro; exact h21
  isplitl [H22]
  · iexists _; isplitl [H22]; · iexact H22
    ipureintro; exact h22
  iexists _; isplitl [H18]; · iexact H18
  ipureintro
  exact h18.step _ _ (k0_off9_eq k) fun r j r' hr => (pay70_row _ _ r j).trans
    (congrArg₂ Row.code (h21.ld (k0_off7_eq k) _ r j r' j hr (by omega) r'.isLt)
      (h22.ld (k0_off8_eq k) _ r (0 : Fin 1) r' (0 : Fin 128) hr rfl r'.isLt))

end Cert.KernelIdeal.Hand

end
-- ==== Proof.Body.lean ====
/-
  One block of the kernel's body at the extended reals: from the blocks of the eleven operands it leaves the eight results'
  blocks, every row a function of that row of the attention output and of the residual stream. The body's three counted
  loops are entered by their invariants and the column groups between them are read off the stored pieces.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import proofs.«01_k».proof.Proof.Chunks
public import proofs.«01_k».proof.Proof.Loop1
public import proofs.«01_k».proof.Proof.Loop2
public import proofs.«01_k».proof.Proof.Loop3

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! ## What a block leaves in its eight results -/

section Results

variable (W : Row.Params) (x0 : Vec Ideal S1x256x3072 .bf16) (x1 : Vec Ideal S1536x128 .f32)

/-- The attention rows. -/
def X12 : Vec Ideal S1x256x768 .bf16 := fun y => att x1 (y 1) (y 2)
/-- The output rows. -/
def X13 : Vec Ideal S1x256x3072 .bf16 := fun y => Row.out W (att x1 (y 1)) (xin x0 (y 1)) (y 2)
/-- The codes of the attention rows, -/
def X14 : Vec Ideal S1x256x768 .fp8e4m3 := fun y => Row.codes (att x1 (y 1)) (y 2)
/-- and their scales. -/
def X15 : Vec Ideal S1x256 .f32 := fun y => Row.scale (att x1 (y 1))
/-- The codes of the normalised rows, -/
def X16 : Vec Ideal S1x256x3072 .fp8e4m3 := fun y => Row.codes (Row.pre W (att x1 (y 1)) (xin x0 (y 1))) (y 2)
/-- and their scales. -/
def X17 : Vec Ideal S1x256 .f32 := fun y => Row.scale (Row.pre W (att x1 (y 1)) (xin x0 (y 1)))
/-- The codes of the hidden rows, -/
def X18 : Vec Ideal S1x256x2048 .fp8e4m3 := fun y => Row.codes (Row.hid W (att x1 (y 1)) (xin x0 (y 1))) (y 2)
/-- and their scales. -/
def X19 : Vec Ideal S1x256 .f32 := fun y => Row.scale (Row.hid W (att x1 (y 1)) (xin x0 (y 1)))

end Results

variable (c : Dev nD) (i : grid0.Coords) (arg1 : Memref sig .tc .vmem S1x256x3072 .bf16) (harg1 : arg1.IsWhole) (arg2 : Memref sig .tc .vmem S1536x128 .f32) (harg2 : arg2.IsWhole) (arg3 : Memref sig .tc .vmem S6x1x3072 .f32) (harg3 : arg3.IsWhole) (arg4 : Memref sig .tc .vmem S768x3072 .fp8e4m3) (harg4 : arg4.IsWhole) (arg5 : Memref sig .tc .vmem S1x3072 .f32) (harg5 : arg5.IsWhole) (arg6 : Memref sig .tc .vmem S3072x2048 .fp8e4m3) (harg6 : arg6.IsWhole) (arg7 : Memref sig .tc .vmem S1x2048 .f32) (harg7 : arg7.IsWhole) (arg8 : Memref sig .tc .vmem S3072x2048 .fp8e4m3) (harg8 : arg8.IsWhole) (arg9 : Memref sig .tc .vmem S1x2048 .f32) (harg9 : arg9.IsWhole) (arg10 : Memref sig .tc .vmem S2048x3072 .fp8e4m3) (harg10 : arg10.IsWhole) (arg11 : Memref sig .tc .vmem S1x3072 .f32) (harg11 : arg11.IsWhole) (arg12 : Memref sig .tc .vmem S1x256x768 .bf16) (harg12 : arg12.IsWhole) (arg13 : Memref sig .tc .vmem S1x256x3072 .bf16) (harg13 : arg13.IsWhole) (arg14 : Memref sig .tc .vmem S1x256x768 .fp8e4m3) (harg14 : arg14.IsWhole) (arg15 : Memref sig .tc .vmem S1x256 .f32) (harg15 : arg15.IsWhole) (arg16 : Memref sig .tc .vmem S1x256x3072 .fp8e4m3) (harg16 : arg16.IsWhole) (arg17 : Memref sig .tc .vmem S1x256 .f32) (harg17 : arg17.IsWhole) (arg18 : Memref sig .tc .vmem S1x256x2048 .fp8e4m3) (harg18 : arg18.IsWhole) (arg19 : Memref sig .tc .vmem S1x256 .f32) (harg19 : arg19.IsWhole) (arg20 : Memref sig .tc .vmem S256x3072 .f32) (harg20 : arg20.IsWhole) (arg21 : Memref sig .tc .vmem S256x2048 .f32) (harg21 : arg21.IsWhole) (arg22 : Memref sig .tc .vmem S256x128 .f32) (harg22 : arg22.IsWhole) (arg23 : Memref sig .tc .vmem S256x128 .f32) (harg23 : arg23.IsWhole)

open Classical in
set_option maxHeartbeats 2000000 in
/-- The body leaves the eight results' blocks and its operands as they were. -/
theorem run (x0 : Vec Ideal S1x256x3072 .bf16) (x1 : Vec Ideal S1536x128 .f32) (x2 : Vec Ideal S6x1x3072 .f32) (x3 : Vec Ideal S768x3072 .fp8e4m3) (x4 : Vec Ideal S1x3072 .f32) (x5 : Vec Ideal S3072x2048 .fp8e4m3) (x6 : Vec Ideal S1x2048 .f32) (x7 : Vec Ideal S3072x2048 .fp8e4m3) (x8 : Vec Ideal S1x2048 .f32) (x9 : Vec Ideal S2048x3072 .fp8e4m3) (x10 : Vec Ideal S1x3072 .f32) :
   ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (X12 x1) ∗ owns (c : Thread nD τ) arg13 fullShare (X13 (params x2 x3 x4 x5 x6 x7 x8 x9 x10) x0 x1) ∗ owns (c : Thread nD τ) arg14 fullShare (X14 x1) ∗ owns (c : Thread nD τ) arg15 fullShare (X15 x1) ∗ owns (c : Thread nD τ) arg16 fullShare (X16 (params x2 x3 x4 x5 x6 x7 x8 x9 x10) x0 x1) ∗ owns (c : Thread nD τ) arg17 fullShare (X17 (params x2 x3 x4 x5 x6 x7 x8 x9 x10) x0 x1) ∗ owns (c : Thread nD τ) arg18 fullShare (X18 (params x2 x3 x4 x5 x6 x7 x8 x9 x10) x0 x1) ∗ owns (c : Thread nD τ) arg19 fullShare (X19 (params x2 x3 x4 x5 x6 x7 x8 x9 x10) x0 x1) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := Ideal)) Variants.none c none) E (cc0_mlp_vid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_mlp_vid_eq_skeleton]; unfold cc0_mlp_vid_skel
    simp only [k0_part22_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_for (inv1 c arg2 harg2 arg12 harg12 arg14 harg14 arg22 harg22 x1) $$ [H1 H11 H13 HS2]
    case region => exact fun k u => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 E x1 k u
    · unfold inv1
      isplitl [H1]; · iexact H1
      isplitl [H11]; · iexists f11; isplitl [H11]; · iexact H11
                       ipureintro; exact fun r j h => absurd h (Nat.not_lt_zero _)
      isplitl [H13]; · iexists f13; isplitl [H13]; · iexact H13
                       ipureintro; exact fun r j h => absurd h (Nat.not_lt_zero _)
      iexists fs2; isplitl [HS2]; · iexact HS2
      ipureintro; exact fun r j h => absurd h (Nat.not_lt_zero _)
    unfold inv1
    rw [show 32 * k0_t1_loop.trips = 256 by decide]
    iintro %_ ⟨H1, ⟨%g11, H11, %h11⟩, ⟨%g13, H13, %h13⟩, ⟨%g22, HS2, %h22⟩⟩
    sl_exec
    have hY : Rows2 arg20.view 256 (fun r j => Row.mid (params x2 x3 x4 x5 x6 x7 x8 x9 x10) (att x1 r) (xin x0 r) j) (arg20.view.writes (Elt Ideal) arg20.view.junk
        (run.sl.HS0_12 c arg1 harg1 arg3 harg3 arg4 harg4 arg5 harg5 arg14 arg22 x0 x2 x3 x4 g13 g22)) := by
      have hS : ∀ r (j : Fin 256), run.sl.r c arg22 g22 (ix2 r j) = Row.scale (att x1 r) := fun r j => rep_row _ (.inl rfl) _ _ r _ (fun l => h22.ld rfl _ r l r l (by omega) (by omega) r.isLt) (fun l => h22.ld rfl _ r l r l (by omega) (by omega) r.isLt) j
      have hC : ∀ r k, run.sl.r_1 c arg14 g13 (ix2 r k) = Row.codes (att x1 r) k := fun r k =>
        (pay13_row _ r k).trans (h13.ld rfl _ r k r k (by omega) (by omega) r.isLt)
      refine Cols2.rows ?_
      refine Cols2.cons (n := 2816) (W := 256) ?_ _ _ fun r j j' hj => ?_
      rotate_left
      · refine y11_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 2560) (W := 256) ?_ _ _ fun r j j' hj => ?_
      rotate_left
      · refine y10_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 2304) (W := 256) ?_ _ _ fun r j j' hj => ?_
      rotate_left
      · refine y9_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 2048) (W := 256) ?_ _ _ fun r j j' hj => ?_
      rotate_left
      · refine y8_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 1792) (W := 256) ?_ _ _ fun r j j' hj => ?_
      rotate_left
      · refine y7_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 1536) (W := 256) ?_ _ _ fun r j j' hj => ?_
      rotate_left
      · refine y6_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 1280) (W := 256) ?_ _ _ fun r j j' hj => ?_
      rotate_left
      · refine y5_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 1024) (W := 256) ?_ _ _ fun r j j' hj => ?_
      rotate_left
      · refine y4_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 768) (W := 256) ?_ _ _ fun r j j' hj => ?_
      rotate_left
      · refine y3_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 512) (W := 256) ?_ _ _ fun r j j' hj => ?_
      rotate_left
      · refine y2_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 256) (W := 256) ?_ _ _ fun r j j' hj => ?_
      rotate_left
      · refine y1_row (params x2 x3 x4 x5 x6 x7 x8 x9 x10) (att x1 r) (xin x0 r) r j j' _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      refine Cols2.cons (n := 0) (W := 256) ?_ _ _ fun r j j' hj => ?_
      rotate_left
      · refine y0_row (params x2 x3 x4 x5 x6 x7 x8 x9 x10) (att x1 r) (xin x0 r) r j j' _ _ _ _ _ _ _ ?_ ?_ ?_ ?_ ?_ ?_
        exacts [hS r j, hC r, fun k => (Rows2.unread harg4 x3 768).ld rfl _ k j k j' (by omega) hj k.isLt, (Rows2.unread harg5 x4 1).ld rfl _ 0 j 0 j' rfl hj (by decide), (Rows3.unread harg1 x0 256).ld rfl _ r j r j' (by omega) hj r.isLt, ld_mod harg3 x2 2 rfl _ j j' hj]
      exact fun r j h => absurd h (Nat.not_lt_zero _)
    sl_for (inv2 c arg3 harg3 arg16 harg16 arg20 harg20 arg22 harg22 x2 (fun r j => Row.mid (params x2 x3 x4 x5 x6 x7 x8 x9 x10) (att x1 r) (xin x0 r) j)) $$ [H2 H15 HS0 HS2]
    case region => exact fun k u => trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 E x2 _ k u
    · unfold inv2
      isplitl [H2]; · iexact H2
      isplitl [HS0]; · iexists _; isplitl [HS0]; · iexact HS0
                       ipureintro; exact hY
      isplitl [H15]; · iexists f15; isplitl [H15]; · iexact H15
                       ipureintro; exact fun r j h => absurd h (Nat.not_lt_zero _)
      iexists g22; isplitl [HS2]; · iexact HS2
      ipureintro; exact fun r j h => absurd h (Nat.not_lt_zero _)
    clear hY
    unfold inv2
    rw [show 32 * k0_t2_loop.trips = 256 by decide]
    iintro %_ ⟨H2, ⟨%g20, HS0, %h20⟩, ⟨%g15, H15, %h15⟩, ⟨%g22', HS2, %h22'⟩⟩
    sl_exec
    have hS : ∀ r (j : Fin 256), run.sl.r_12 c arg22 g22' (ix2 r j) = Row.scale (Row.pre (params x2 x3 x4 x5 x6 x7 x8 x9 x10) (att x1 r) (xin x0 r)) := fun r j => rep_row _ (.inr (.inl rfl)) _ _ r _ (fun l => h22'.ld rfl _ r l r l (by omega) (by omega) r.isLt) (fun l => h22'.ld rfl _ r l r l (by omega) (by omega) r.isLt) j
    have hC : ∀ r k, run.sl.r_13 c arg16 g15 (ix2 r k) = Row.codes (Row.pre (params x2 x3 x4 x5 x6 x7 x8 x9 x10) (att x1 r) (xin x0 r)) k := fun r k =>
      (pay39_row _ r k).trans (h15.ld rfl _ r k r k (by omega) (by omega) r.isLt)
    have hH : Rows2 arg21.view 256 (fun r j => (Row.hid (params x2 x3 x4 x5 x6 x7 x8 x9 x10) (att x1 r) (xin x0 r)) j) (arg21.view.writes (Elt Ideal) arg21.view.junk
        (run.sl.HS1_8 c arg6 harg6 arg7 harg7 arg8 harg8 arg9 harg9 arg16 arg22 x5 x6 x7 x8 g15 g22')) := by
      refine Cols2.rows ?_
      refine Cols2.cons (n := 1792) (W := 256) ?_ _ _ fun r j j' hj => ?_
      rotate_left
      · refine (pay66_row r j _ _ _ _ _ _).trans ?_
        refine h7_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      refine Cols2.cons (n := 1536) (W := 256) ?_ _ _ fun r j j' hj => ?_
      rotate_left
      · refine (pay63_row r j _ _ _ _ _ _).trans ?_
        refine h6_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      refine Cols2.cons (n := 1280) (W := 256) ?_ _ _ fun r j j' hj => ?_
      rotate_left
      · refine (pay60_row r j _ _ _ _ _).trans ?_
        refine h5_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      refine Cols2.cons (n := 1024) (W := 256) ?_ _ _ fun r j j' hj => ?_
      rotate_left
      · refine (pay56_row r j _ _ _ _ _ _).trans ?_
        refine h4_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      refine Cols2.cons (n := 768) (W := 256) ?_ _ _ fun r j j' hj => ?_
      rotate_left
      · refine (pay54_row r j _).trans ?_
        refine h3_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      refine Cols2.cons (n := 512) (W := 256) ?_ _ _ fun r j j' hj => ?_
      rotate_left
      · refine (pay51_row r j _ _ _ _ _ _).trans ?_
        refine h2_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      refine Cols2.cons (n := 256) (W := 256) ?_ _ _ fun r j j' hj => ?_
      rotate_left
      · refine (pay47_row r j _ _ _ _ _ _).trans ?_
        refine h1_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      refine Cols2.cons (n := 0) (W := 256) ?_ _ _ fun r j j' hj => ?_
      rotate_left
      · refine (pay45_row r j _ _ _).trans ?_
        refine h0_row (params x2 x3 x4 x5 x6 x7 x8 x9 x10) (att x1 r) (xin x0 r) r j j' _ _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      exact fun r j h => absurd h (Nat.not_lt_zero _)
    have hL : Rows2 arg22.view 256 (fun r _ => Row.scale (Row.hid (params x2 x3 x4 x5 x6 x7 x8 x9 x10) (att x1 r) (xin x0 r))) (arg22.view.writes (Elt Ideal) arg22.view.junk
        (run.sl.HS2_1 c arg6 harg6 arg7 harg7 arg8 harg8 arg9 harg9 arg16 arg22 x5 x6 x7 x8 g15 g22')) := by
      refine Cols2.rows (Cols2.cons (n := 0) (W := 128) (fun r j h => absurd h (Nat.not_lt_zero _)) _ _ fun r j j' hj => ?_)
      refine (pay68_row r _ j).trans ?_
      refine pay67_row r (Row.hid (params x2 x3 x4 x5 x6 x7 x8 x9 x10) (att x1 r) (xin x0 r)) _ _ _ _ _ _ _ _ ?_ ?_ ?_ j
      · refine pay61_lane r _ _ _ _ _ _ _ ?_ ?_
        · refine pay57_lane r _ _ _ _ _ _ _ _ _ ?_ ?_ ?_
          · refine pay52_lane r _ _ _ _ _ _ _ _ ?_ ?_
            · refine pay48_lane r _ _ _ _ _ _ _ _ _ _ _ (pay40_lane r _) ?_ ?_
              · intro j j' hj
                refine h0_row (params x2 x3 x4 x5 x6 x7 x8 x9 x10) (att x1 r) (xin x0 r) r j j' _ _ _ _ _ _ _ ?_ ?_ ?_ ?_ ?_ ?_
                exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
              · intro j j' hj
                refine h1_row (params x2 x3 x4 x5 x6 x7 x8 x9 x10) (att x1 r) (xin x0 r) r j j' _ _ _ _ _ _ ?_ ?_ ?_ ?_ ?_ ?_
                exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
            · intro j j' hj
              refine h2_row (params x2 x3 x4 x5 x6 x7 x8 x9 x10) (att x1 r) (xin x0 r) r j j' _ _ _ _ _ _ ?_ ?_ ?_ ?_ ?_ ?_
              exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
          · intro j j' hj
            refine h3_row (params x2 x3 x4 x5 x6 x7 x8 x9 x10) (att x1 r) (xin x0 r) r j j' _ _ _ _ _ _ ?_ ?_ ?_ ?_ ?_ ?_
            exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
          · intro j j' hj
            refine h4_row (params x2 x3 x4 x5 x6 x7 x8 x9 x10) (att x1 r) (xin x0 r) r j j' _ _ _ _ _ _ ?_ ?_ ?_ ?_ ?_ ?_
            exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
        · intro j j' hj
          refine h5_row (params x2 x3 x4 x5 x6 x7 x8 x9 x10) (att x1 r) (xin x0 r) r j j' _ _ _ _ _ _ ?_ ?_ ?_ ?_ ?_ ?_
          exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      · intro j j' hj
        refine (pay64_row r j _ _ _ _ _ _).trans (congrArg Row.mag ?_)
        refine h6_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
      · intro j j' hj
        refine h7_row (params x2 x3 x4 x5 x6 x7 x8 x9 x10) (att x1 r) (xin x0 r) r j j' _ _ _ _ _ _ ?_ ?_ ?_ ?_ ?_ ?_
        exacts [hS r j, hC r, fun k => (Rows2.unread harg6 x5 3072).ld rfl _ k j k j' (by omega) hj k.isLt, (Rows2.unread harg7 x6 1).ld rfl _ 0 j 0 j' rfl hj (by decide), fun k => (Rows2.unread harg8 x7 3072).ld rfl _ k j k j' (by omega) hj k.isLt, (Rows2.unread harg9 x8 1).ld rfl _ 0 j 0 j' rfl hj (by decide)]
    clear hS hC
    sl_for (inv3 c arg18 harg18 arg21 harg21 arg22 harg22 (fun r j => (Row.hid (params x2 x3 x4 x5 x6 x7 x8 x9 x10) (att x1 r) (xin x0 r)) j) (fun r => Row.scale (Row.hid (params x2 x3 x4 x5 x6 x7 x8 x9 x10) (att x1 r) (xin x0 r)))) $$ [H17 HS1 HS2]
    case region => exact fun k u => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 E _ _ _ k u
    · unfold inv3
      isplitl [HS1]; · iexists _; isplitl [HS1]; · iexact HS1
                       ipureintro; exact hH
      isplitl [HS2]; · iexists _; isplitl [HS2]; · iexact HS2
                       ipureintro; exact hL
      iexists f17; isplitl [H17]; · iexact H17
      ipureintro; exact fun r j h => absurd h (Nat.not_lt_zero _)
    unfold inv3
    rw [show 32 * k0_t3_loop.trips = 256 by decide]
    iintro %_ ⟨⟨%g21, HS1, %h21⟩, ⟨%g22'', HS2, %h22''⟩, ⟨%g17, H17, %h17⟩⟩
    sl_exec
    sl_step
    have hS : ∀ r (j : Fin 256), run.sl.r_26 c arg22 g22'' (ix2 r j) = Row.scale (Row.hid (params x2 x3 x4 x5 x6 x7 x8 x9 x10) (att x1 r) (xin x0 r)) := fun r j => rep_row _ (.inr (.inr rfl)) _ _ r _ (fun l => h22''.ld rfl _ r l r l (by omega) (by omega) r.isLt) (fun l => h22''.ld rfl _ r l r l (by omega) (by omega) r.isLt) j
    have hC : ∀ r k, run.sl.r_27 c arg18 g17 (ix2 r k) = Row.codes (Row.hid (params x2 x3 x4 x5 x6 x7 x8 x9 x10) (att x1 r) (xin x0 r)) k := fun r k =>
      (pay72_row _ r k).trans (h17.ld rfl _ r k r k (by omega) (by omega) r.isLt)
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro; exact h11.whole
    isplitl [H12]
    · iexists _; isplitr; swap; · iexact H12
      ipureintro
      refine Rows3.whole (v := arg13.view) (G := fun r j => Row.out (params x2 x3 x4 x5 x6 x7 x8 x9 x10) (att x1 r) (xin x0 r) j) (Cols3.rows ?_)
      refine Cols3.cons (n := 2816) (W := 256) ?_ _ _ fun r j j' hj => ?_
      rotate_left
      · refine o11_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 2560) (W := 256) ?_ _ _ fun r j j' hj => ?_
      rotate_left
      · refine o10_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 2304) (W := 256) ?_ _ _ fun r j j' hj => ?_
      rotate_left
      · refine o9_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 2048) (W := 256) ?_ _ _ fun r j j' hj => ?_
      rotate_left
      · refine o8_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 1792) (W := 256) ?_ _ _ fun r j j' hj => ?_
      rotate_left
      · refine o7_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 1536) (W := 256) ?_ _ _ fun r j j' hj => ?_
      rotate_left
      · refine o6_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 1280) (W := 256) ?_ _ _ fun r j j' hj => ?_
      rotate_left
      · refine o5_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 1024) (W := 256) ?_ _ _ fun r j j' hj => ?_
      rotate_left
      · refine o4_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 768) (W := 256) ?_ _ _ fun r j j' hj => ?_
      rotate_left
      · refine o3_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 512) (W := 256) ?_ _ _ fun r j j' hj => ?_
      rotate_left
      · refine o2_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 256) (W := 256) ?_ _ _ fun r j j' hj => ?_
      rotate_left
      · refine o1_row (params x2 x3 x4 x5 x6 x7 x8 x9 x10) (att x1 r) (xin x0 r) r j j' _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      refine Cols3.cons (n := 0) (W := 256) ?_ _ _ fun r j j' hj => ?_
      rotate_left
      · refine o0_row (params x2 x3 x4 x5 x6 x7 x8 x9 x10) (att x1 r) (xin x0 r) r j j' _ _ _ _ _ _ _ ?_ ?_ ?_ ?_ ?_ ?_
        exacts [hS r j, hC r, fun k => (Rows2.unread harg10 x9 2048).ld rfl _ k j k j' (by omega) hj k.isLt, (Rows2.unread harg11 x10 1).ld rfl _ 0 j 0 j' rfl hj (by decide), h20.ld rfl _ r j r j' (by omega) hj r.isLt, ld_mod harg3 x2 5 rfl _ j j' hj]
      exact fun r j h => absurd h (Nat.not_lt_zero _)
    isplitl [H13]
    · iexists _; isplitr; swap; · iexact H13
      ipureintro; exact h13.whole
    isplitl [H14]
    · iexists _; isplitr; swap; · iexact H14
      ipureintro
      refine Rows2.whole (v := arg15.view) (G := fun (_ : Fin 1) (r : Fin 256) => Row.scale (att x1 r)) (Cols2.rows ?_)
      refine Cols2.cons (n := 0) (W := 256) (fun r j h => absurd h (Nat.not_lt_zero _)) _ _ fun r j j' hj => ?_
      obtain rfl : j' = j := Fin.ext (by omega)
      obtain rfl := Subsingleton.elim r 0
      exact turn_row _ (.inl rfl) _ (fun r => Row.scale (att x1 r)) (fun r => h22.ld rfl _ r 0 r 0 (by omega) rfl r.isLt) j'
    isplitl [H15]
    · iexists _; isplitr; swap; · iexact H15
      ipureintro; exact h15.whole
    isplitl [H16]
    · iexists _; isplitr; swap; · iexact H16
      ipureintro
      refine Rows2.whole (v := arg17.view) (G := fun (_ : Fin 1) (r : Fin 256) => Row.scale (Row.pre (params x2 x3 x4 x5 x6 x7 x8 x9 x10) (att x1 r) (xin x0 r))) (Cols2.rows ?_)
      refine Cols2.cons (n := 0) (W := 256) (fun r j h => absurd h (Nat.not_lt_zero _)) _ _ fun r j j' hj => ?_
      obtain rfl : j' = j := Fin.ext (by omega)
      obtain rfl := Subsingleton.elim r 0
      exact turn_row _ (.inr (.inl rfl)) _ (fun r => Row.scale (Row.pre (params x2 x3 x4 x5 x6 x7 x8 x9 x10) (att x1 r) (xin x0 r))) (fun r => h22'.ld rfl _ r 0 r 0 (by omega) rfl r.isLt) j'
    isplitl [H17]
    · iexists _; isplitr; swap; · iexact H17
      ipureintro; exact h17.whole
    isplitl [H18]
    · iexists _; isplitr; swap; · iexact H18
      ipureintro
      refine Rows2.whole (v := arg19.view) (G := fun (_ : Fin 1) (r : Fin 256) => Row.scale (Row.hid (params x2 x3 x4 x5 x6 x7 x8 x9 x10) (att x1 r) (xin x0 r))) (Cols2.rows ?_)
      refine Cols2.cons (n := 0) (W := 256) (fun r j h => absurd h (Nat.not_lt_zero _)) _ _ fun r j j' hj => ?_
      obtain rfl : j' = j := Fin.ext (by omega)
      obtain rfl := Subsingleton.elim r 0
      exact turn_row _ (.inr (.inr rfl)) _ (fun r => Row.scale (Row.hid (params x2 x3 x4 x5 x6 x7 x8 x9 x10) (att x1 r) (xin x0 r))) (fun r => hL.ld rfl _ r 0 r 0 (by omega) rfl r.isLt) j'
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Hand

end
-- ==== Proof.Run.lean ====
/-
  The kernel's pipeline at the extended reals: what every result's buffer holds after each point, the body's obligation, the
  program's run and its frame.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit
public import proofs.«01_k».proof.Proof.Body
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! ## The body's operands at a point -/

abbrev ms0_0 (t : Fin cfg0.N) : Memref sig .tc .vmem S1x256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6x1x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x3072 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3072 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3072x2048 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3072x2048 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x3072 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x3072 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256x768 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256x3072 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256x768 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x3072 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x256x2048 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x256 .f32 := win0_18.stage (cfg0.slots t 18)
abbrev hs0_18 (t : Fin cfg0.N) : (ms0_18 t).IsWhole := hstage0_18 ((cfg0.slots t 18).cast nbuf0_18)
abbrev scM0_0 : Memref sig .tc .vmem S256x3072 .f32 := Memref.whole cc0_scratch0
abbrev scM0_1 : Memref sig .tc .vmem S256x2048 .f32 := Memref.whole cc0_scratch1
abbrev scM0_2 : Memref sig .tc .vmem S256x128 .f32 := Memref.whole cc0_scratch2
abbrev scM0_3 : Memref sig .tc .vmem S256x128 .f32 := Memref.whole cc0_scratch3

/-- The pipeline's invariant with the scratch operands owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt Ideal) ℓ) (ρ : Dev nD → PrngReg)

/-! ## The pipeline's proof data -/

/-- The parameters, from the operands' blocks at a point. -/
def prm (c : Dev nD) (t : Fin cfg0.N) : Row.Params :=
  params (iblk m c 2 t) (iblk m c 3 t) (iblk m c 4 t) (iblk m c 5 t) (iblk m c 6 t) (iblk m c 7 t) (iblk m c 8 t) (iblk m c 9 t) (iblk m c 10 t)

/-- After the body at point `t` each operand's buffer holds its block and each result's buffer the rows computed from them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => X12 (X0_1 m c t)
    | ⟨12, _⟩ => X13 (prm m c t) (iblk m c 0 t) (X0_1 m c t)
    | ⟨13, _⟩ => X14 (X0_1 m c t)
    | ⟨14, _⟩ => X15 (X0_1 m c t)
    | ⟨15, _⟩ => X16 (prm m c t) (iblk m c 0 t) (X0_1 m c t)
    | ⟨16, _⟩ => X17 (prm m c t) (iblk m c 0 t) (X0_1 m c t)
    | ⟨17, _⟩ => X18 (prm m c t) (iblk m c 0 t) (X0_1 m c t)
    | ⟨18, _⟩ => X19 (prm m c t) (iblk m c 0 t) (X0_1 m c t)
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = X12 (X0_1 m c t) := by dsimp only [dats]
theorem after0_12 (c : Dev nD) (t : Fin cfg0.N) : (dats m 0 c).after 12 t = X13 (prm m c t) (iblk m c 0 t) (X0_1 m c t) := by dsimp only [dats]
theorem after0_13 (c : Dev nD) (t : Fin cfg0.N) : (dats m 0 c).after 13 t = X14 (X0_1 m c t) := by dsimp only [dats]
theorem after0_14 (c : Dev nD) (t : Fin cfg0.N) : (dats m 0 c).after 14 t = X15 (X0_1 m c t) := by dsimp only [dats]
theorem after0_15 (c : Dev nD) (t : Fin cfg0.N) : (dats m 0 c).after 15 t = X16 (prm m c t) (iblk m c 0 t) (X0_1 m c t) := by dsimp only [dats]
theorem after0_16 (c : Dev nD) (t : Fin cfg0.N) : (dats m 0 c).after 16 t = X17 (prm m c t) (iblk m c 0 t) (X0_1 m c t) := by dsimp only [dats]
theorem after0_17 (c : Dev nD) (t : Fin cfg0.N) : (dats m 0 c).after 17 t = X18 (prm m c t) (iblk m c 0 t) (X0_1 m c t) := by dsimp only [dats]
theorem after0_18 (c : Dev nD) (t : Fin cfg0.N) : (dats m 0 c).after 18 t = X19 (prm m c t) (iblk m c 0 t) (X0_1 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 2000000 in
/-- The body at any point: the inputs' memrefs hold their blocks ; so the
    run applies; the invariant hands the body its scratch buffers at some contents (and the generator register) and takes them back at some contents; the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((run c (grid0.coords t) _ _ _ _ _ _ _ _ _ _ _ _ _ _ _ _ _ _ _ _ _ _ _ _ _ _ _ _ _ _ _ _ _ _ _ _ _ _ _ _ _ _ _ _ _ _ (iblk m c 0 t) (X0_1 m c t) (iblk m c 2 t) (iblk m c 3 t) (iblk m c 4 t) (iblk m c 5 t) (iblk m c 6 t) (iblk m c 7 t) (iblk m c 8 t) (iblk m c 9 t) (iblk m c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, H16, H17, H18, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters every weakly fair execution of the program terminates with the pipeline's arrays at what
    the body left in them point by point, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- THE FRAME: every execution terminates with the argument arrays unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Hand

end
-- ==== Proof.Whole.lean ====
/-
  The results as functions of the ARGUMENT ARRAYS: every result is the one-row arithmetic at the row's operands.
-/
module

public import proofs.«01_k».proof.Proof.Spec

@[expose] public section

noncomputable section

namespace Cert.Whole

open Idealize.ShloMosaic

/-- An array of three axes. -/
abbrev A3 (a b c : ℕ) : Type := (⟨3, ![a, b, c]⟩ : Shape).Idx → EReal
/-- An array of two axes. -/
abbrev A2 (a b : ℕ) : Type := (⟨2, ![a, b]⟩ : Shape).Idx → EReal
/-- An array of one axis. -/
abbrev A1 (a : ℕ) : Type := (⟨1, ![a]⟩ : Shape).Idx → EReal

/-- Row `r` of the attention output: its 768 elements are six consecutive rows of 128 of the argument. -/
def att (x1 : A2 10800 128) (r : Fin 1792) (j : Fin 768) : EReal :=
  x1 (ix2 ⟨6 * r.val + j.val / 128, by omega⟩ ⟨j.val % 128, by omega⟩)

/-- Row `r` of the residual stream. -/
def xin (x0 : A3 1 1792 3072) (r : Fin 1792) (j : Fin 3072) : EReal := x0 (ix3 0 r j)

/-- The parameters, from the arguments. -/
def params (x2 : A3 1 6 3072) (x3 : A2 768 3072) (x4 : A1 3072) (x5 : A2 3072 2048) (x6 : A1 2048) (x7 : A2 3072 2048)
    (x8 : A1 2048) (x9 : A2 2048 3072) (x10 : A1 3072) : Row.Params where
  g1 j := x2 (ix3 0 2 j)
  sh j := x2 (ix3 0 3 j)
  sc j := x2 (ix3 0 4 j)
  g2 j := x2 (ix3 0 5 j)
  wo k j := x3 (ix2 k j)
  so j := x4 (ix1 j)
  w1 k j := x5 (ix2 k j)
  s1 j := x6 (ix1 j)
  w3 k j := x7 (ix2 k j)
  s3 j := x8 (ix1 j)
  w2 k j := x9 (ix2 k j)
  s2 j := x10 (ix1 j)

variable (W : Row.Params) (x0 : A3 1 1792 3072) (x1 : A2 10800 128)

/-- The attention output, -/
def attn : A3 1 1792 768 := fun y => att x1 (y 1) (y 2)
/-- the output rows, -/
def out : A3 1 1792 3072 := fun y => Row.out W (att x1 (y 1)) (xin x0 (y 1)) (y 2)
/-- the codes of the attention rows, -/
def attnCodes : A3 1 1792 768 := fun y => Row.codes (att x1 (y 1)) (y 2)
/-- their scales, -/
def attnScales : A2 1 1792 := fun y => Row.scale (att x1 (y 1))
/-- the codes of the normalised rows, -/
def preCodes : A3 1 1792 3072 := fun y => Row.codes (Row.pre W (att x1 (y 1)) (xin x0 (y 1))) (y 2)
/-- their scales, -/
def preScales : A2 1 1792 := fun y => Row.scale (Row.pre W (att x1 (y 1)) (xin x0 (y 1)))
/-- the codes of the hidden rows, -/
def hidCodes : A3 1 1792 2048 := fun y => Row.codes (Row.hid W (att x1 (y 1)) (xin x0 (y 1))) (y 2)
/-- and their scales. -/
def hidScales : A2 1 1792 := fun y => Row.scale (Row.hid W (att x1 (y 1)) (xin x0 (y 1)))

end Cert.Whole

end
-- ==== Proof.Blocks.lean ====
/-
  The operands' blocks at a grid point as rows of the argument arrays.
-/
module

public import proofs.«01_k».proof.Proof.Run
public import proofs.«01_k».proof.Proof.Whole
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Hand

variable (m : (ℓ : Loc nD τ sig) → Buf (Elt Ideal) ℓ)

/-- The block each window takes at a point: block `t` of the rows, and the parameters whole. -/
theorem idx : ∀ t : Fin cfg0.N, win0_0.index t = ![0, t.val, 0]
    ∧ win0_1.index t = ![t.val, 0]
    ∧ win0_2.index t = ![0, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, t.val, 0]
    ∧ win0_12.index t = ![0, t.val, 0]
    ∧ win0_13.index t = ![0, t.val, 0]
    ∧ win0_14.index t = ![0, t.val]
    ∧ win0_15.index t = ![0, t.val, 0]
    ∧ win0_16.index t = ![0, t.val]
    ∧ win0_17.index t = ![0, t.val, 0]
    ∧ win0_18.index t = ![0, t.val] :=
  (by decide +kernel : ∀ t : Fin grid0.N, _)

/-- There are seven points. -/
theorem lt7 (t : Fin cfg0.N) : t.val < 7 := t.isLt

/-- The row of the whole array that row `r` of block `t` is. -/
def row (t : Fin cfg0.N) (r : Fin 256) : Fin 1792 := ⟨256 * t.val + r.val, by have := lt7 t; omega⟩

/-- The parameters of device `c`'s run. -/
def par (c : Dev nD) : Row.Params :=
  Whole.params (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- A block's rows of the residual stream are rows of the array. -/
theorem xin_block (c : Dev nD) (t : Fin cfg0.N) (r : Fin 256) :
    xin (iblk m c 0 t) r = Whole.xin (m ((c : Thread nD τ).loc main_arg0)) (row t r) := by
  funext j
  unfold xin Whole.xin row
  blk_ext [iblk, V, idx t]

/-- A block's rows of the attention output are rows of the array. -/
theorem att_block (c : Dev nD) (t : Fin cfg0.N) (r : Fin 256) :
    att (X0_1 m c t) r = Whole.att (m ((c : Thread nD τ).loc main_arg1)) (row t r) := by
  funext j
  unfold att Whole.att row X0_1 Pipeline.Window.fill
  rw [dif_pos (moved0_1 t _)]
  blk_ext [iblk, V, idx t]

/-- The parameters at every point are the arguments'. -/
theorem prm_block (c : Dev nD) (t : Fin cfg0.N) : prm m c t = par m c := by
  unfold prm par params Whole.params
  congr 1
  all_goals (try funext k)
  all_goals (try funext j)
  all_goals blk_point [iblk, V, idx t]

end Cert.KernelIdeal.Value

end
-- ==== Proof.Value.lean ====
/-
  The idealized kernel's result arrays after a run, as functions of the argument arrays.
-/
module

public import proofs.«01_k».proof.Proof.Blocks

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Hand

variable (m : (ℓ : Loc nD τ sig) → Buf (Elt Ideal) ℓ)

/-- The attention output: what point `t` leaves at `y` is the array's value at block `t`'s place. -/
theorem point11 (c : Dev nD) (t : Fin cfg0.N) (y : S1x256x768.Idx) :
    X12 (X0_1 m c t) y = Whole.attn (m ((c : Thread nD τ).loc main_arg1)) (ix3 0 (row t (y 1)) (y 2)) := by
  exact congrArg (fun a => a (y 2)) (att_block m c t (y 1))

/-- The attention output after the run. -/
theorem final11 (c : Dev nD) : (dats m 0 c).arrAt 11 (cfgs 0).N
    = Whole.attn (m ((c : Thread nD τ).loc main_arg1)) := by
  refine (dats m 0 c).arrAt_eq_of_covers 11 _ (by decide +kernel) fun t _ y => ?_
  blk_simp
  rw [after0_11]
  refine (point11 m c t y).trans (congrArg _ ?_)
  unfold row
  blk_ext [idx t]

/-- The output: what point `t` leaves at `y` is the array's value at block `t`'s place. -/
theorem point12 (c : Dev nD) (t : Fin cfg0.N) (y : S1x256x3072.Idx) :
    X13 (prm m c t) (iblk m c 0 t) (X0_1 m c t) y = Whole.out (par m c) (m ((c : Thread nD τ).loc main_arg0)) (m ((c : Thread nD τ).loc main_arg1)) (ix3 0 (row t (y 1)) (y 2)) := by
  rw [prm_block]
  exact congrArg₂ (fun a x => Row.out (par m c) a x (y 2)) (att_block m c t (y 1)) (xin_block m c t (y 1))

/-- The output after the run. -/
theorem final12 (c : Dev nD) : (dats m 0 c).arrAt 12 (cfgs 0).N
    = Whole.out (par m c) (m ((c : Thread nD τ).loc main_arg0)) (m ((c : Thread nD τ).loc main_arg1)) := by
  refine (dats m 0 c).arrAt_eq_of_covers 12 _ (by decide +kernel) fun t _ y => ?_
  blk_simp
  rw [after0_12]
  refine (point12 m c t y).trans (congrArg _ ?_)
  unfold row
  blk_ext [idx t]

/-- The codes of the attention output: what point `t` leaves at `y` is the array's value at block `t`'s place. -/
theorem point13 (c : Dev nD) (t : Fin cfg0.N) (y : S1x256x768.Idx) :
    X14 (X0_1 m c t) y = Whole.attnCodes (m ((c : Thread nD τ).loc main_arg1)) (ix3 0 (row t (y 1)) (y 2)) := by
  exact congrArg (fun a => Row.codes a (y 2)) (att_block m c t (y 1))

/-- The codes of the attention output after the run. -/
theorem final13 (c : Dev nD) : (dats m 0 c).arrAt 13 (cfgs 0).N
    = Whole.attnCodes (m ((c : Thread nD τ).loc main_arg1)) := by
  refine (dats m 0 c).arrAt_eq_of_covers 13 _ (by decide +kernel) fun t _ y => ?_
  blk_simp
  rw [after0_13]
  refine (point13 m c t y).trans (congrArg _ ?_)
  unfold row
  blk_ext [idx t]

/-- Their scales: what point `t` leaves at `y` is the array's value at block `t`'s place. -/
theorem point14 (c : Dev nD) (t : Fin cfg0.N) (y : S1x256.Idx) :
    X15 (X0_1 m c t) y = Whole.attnScales (m ((c : Thread nD τ).loc main_arg1)) (ix2 0 (row t (y 1))) := by
  exact congrArg (fun a => Row.scale a) (att_block m c t (y 1))

/-- Their scales after the run. -/
theorem final14 (c : Dev nD) : (dats m 0 c).arrAt 14 (cfgs 0).N
    = Whole.attnScales (m ((c : Thread nD τ).loc main_arg1)) := by
  refine (dats m 0 c).arrAt_eq_of_covers 14 _ (by decide +kernel) fun t _ y => ?_
  blk_simp
  rw [after0_14]
  refine (point14 m c t y).trans (congrArg _ ?_)
  unfold row
  blk_ext [idx t]

/-- The codes of the normalised rows: what point `t` leaves at `y` is the array's value at block `t`'s place. -/
theorem point15 (c : Dev nD) (t : Fin cfg0.N) (y : S1x256x3072.Idx) :
    X16 (prm m c t) (iblk m c 0 t) (X0_1 m c t) y = Whole.preCodes (par m c) (m ((c : Thread nD τ).loc main_arg0)) (m ((c : Thread nD τ).loc main_arg1)) (ix3 0 (row t (y 1)) (y 2)) := by
  rw [prm_block]
  exact congrArg₂ (fun a x => Row.codes (Row.pre (par m c) a x) (y 2)) (att_block m c t (y 1)) (xin_block m c t (y 1))

/-- The codes of the normalised rows after the run. -/
theorem final15 (c : Dev nD) : (dats m 0 c).arrAt 15 (cfgs 0).N
    = Whole.preCodes (par m c) (m ((c : Thread nD τ).loc main_arg0)) (m ((c : Thread nD τ).loc main_arg1)) := by
  refine (dats m 0 c).arrAt_eq_of_covers 15 _ (by decide +kernel) fun t _ y => ?_
  blk_simp
  rw [after0_15]
  refine (point15 m c t y).trans (congrArg _ ?_)
  unfold row
  blk_ext [idx t]

/-- Their scales: what point `t` leaves at `y` is the array's value at block `t`'s place. -/
theorem point16 (c : Dev nD) (t : Fin cfg0.N) (y : S1x256.Idx) :
    X17 (prm m c t) (iblk m c 0 t) (X0_1 m c t) y = Whole.preScales (par m c) (m ((c : Thread nD τ).loc main_arg0)) (m ((c : Thread nD τ).loc main_arg1)) (ix2 0 (row t (y 1))) := by
  rw [prm_block]
  exact congrArg₂ (fun a x => Row.scale (Row.pre (par m c) a x)) (att_block m c t (y 1)) (xin_block m c t (y 1))

/-- Their scales after the run. -/
theorem final16 (c : Dev nD) : (dats m 0 c).arrAt 16 (cfgs 0).N
    = Whole.preScales (par m c) (m ((c : Thread nD τ).loc main_arg0)) (m ((c : Thread nD τ).loc main_arg1)) := by
  refine (dats m 0 c).arrAt_eq_of_covers 16 _ (by decide +kernel) fun t _ y => ?_
  blk_simp
  rw [after0_16]
  refine (point16 m c t y).trans (congrArg _ ?_)
  unfold row
  blk_ext [idx t]

/-- The codes of the hidden rows: what point `t` leaves at `y` is the array's value at block `t`'s place. -/
theorem point17 (c : Dev nD) (t : Fin cfg0.N) (y : S1x256x2048.Idx) :
    X18 (prm m c t) (iblk m c 0 t) (X0_1 m c t) y = Whole.hidCodes (par m c) (m ((c : Thread nD τ).loc main_arg0)) (m ((c : Thread nD τ).loc main_arg1)) (ix3 0 (row t (y 1)) (y 2)) := by
  rw [prm_block]
  exact congrArg₂ (fun a x => Row.codes (Row.hid (par m c) a x) (y 2)) (att_block m c t (y 1)) (xin_block m c t (y 1))

/-- The codes of the hidden rows after the run. -/
theorem final17 (c : Dev nD) : (dats m 0 c).arrAt 17 (cfgs 0).N
    = Whole.hidCodes (par m c) (m ((c : Thread nD τ).loc main_arg0)) (m ((c : Thread nD τ).loc main_arg1)) := by
  refine (dats m 0 c).arrAt_eq_of_covers 17 _ (by decide +kernel) fun t _ y => ?_
  blk_simp
  rw [after0_17]
  refine (point17 m c t y).trans (congrArg _ ?_)
  unfold row
  blk_ext [idx t]

/-- Their scales: what point `t` leaves at `y` is the array's value at block `t`'s place. -/
theorem point18 (c : Dev nD) (t : Fin cfg0.N) (y : S1x256.Idx) :
    X19 (prm m c t) (iblk m c 0 t) (X0_1 m c t) y = Whole.hidScales (par m c) (m ((c : Thread nD τ).loc main_arg0)) (m ((c : Thread nD τ).loc main_arg1)) (ix2 0 (row t (y 1))) := by
  rw [prm_block]
  exact congrArg₂ (fun a x => Row.scale (Row.hid (par m c) a x)) (att_block m c t (y 1)) (xin_block m c t (y 1))

/-- Their scales after the run. -/
theorem final18 (c : Dev nD) : (dats m 0 c).arrAt 18 (cfgs 0).N
    = Whole.hidScales (par m c) (m ((c : Thread nD τ).loc main_arg0)) (m ((c : Thread nD τ).loc main_arg1)) := by
  refine (dats m 0 c).arrAt_eq_of_covers 18 _ (by decide +kernel) fun t _ y => ?_
  blk_simp
  rw [after0_18]
  refine (point18 m c t y).trans (congrArg _ ?_)
  unfold row
  blk_ext [idx t]

end Cert.KernelIdeal.Value

end
-- ==== Proof.RefRows.lean ====
/-
  The reference's array expressions at one row: each is the one-row arithmetic.
-/
module

public import proofs.«01_k».proof.Proof.Gen.ReferenceIdeal.Skeleton
public import Idealize.ShloMosaic.Lib.Pointwise
public import proofs.«01_k».proof.Proof.Spec

@[expose] public section

set_option maxRecDepth 16384

noncomputable section

namespace Cert.ReferenceIdeal.Hand

open Idealize.ShloMosaic Idealize.ShloMosaic.TcCoe
open Cert.ReferenceIdeal Cert.ReferenceIdeal.Gen

variable (r : Fin 1792)

/-! ## Quantisation of an array's rows -/

/-- The scale of a row whose largest absolute value is `m`. -/
theorem scale_vec (M : FVec Ideal S1792 .f32) (m : EReal) (h : M (ix1 r) = m) :
    (select (cmpf .oeq M (broadcast S1792 (Scalar.ofBits (F := Ideal) .f32 0x00000000#32))) (broadcast S1792 (Scalar.ofBits .f32 0x3F800000#32)) (divf M (broadcast S1792 (Scalar.ofBits .f32 0x43E00000#32))) : FVec Ideal S1792 .f32) (ix1 r) = Row.toScale m := by
  pointwise
  rw [h]; rfl

/-- A code, 768 to a row. -/
theorem codes_vec768 (X : FVec Ideal S1792x768 .f32) (M : FVec Ideal S1792 .f32) (x s : EReal) (j : Fin 768)
    (hx : X (ix2 r j) = x) (hs : M (ix1 r) = s) :
    (truncf .fp8e4m3 (minimumf (broadcast S1792x768 (Scalar.ofBits (F := Ideal) .f32 0x43E00000#32))
      (maximumf (broadcast S1792x768 (Scalar.ofBits .f32 0xC3E00000#32))
        (divf X (broadcastTo S1792x768 (shapeCast S1792x1 M shapeCasts_S1792_S1792x1) broadcasts_S1792x1_S1792x768))))
      bitsLt_fp8e4m3_f32 : FVec Ideal S1792x768 .fp8e4m3) (ix2 r j) = Row.code x s := by
  pointwise
  rw [hx, hs]; rfl

/-- A code, 3072 to a row. -/
theorem codes_vec3072 (X : FVec Ideal S1792x3072 .f32) (M : FVec Ideal S1792 .f32) (x s : EReal) (j : Fin 3072)
    (hx : X (ix2 r j) = x) (hs : M (ix1 r) = s) :
    (truncf .fp8e4m3 (minimumf (broadcast S1792x3072 (Scalar.ofBits (F := Ideal) .f32 0x43E00000#32))
      (maximumf (broadcast S1792x3072 (Scalar.ofBits .f32 0xC3E00000#32))
        (divf X (broadcastTo S1792x3072 (shapeCast S1792x1 M shapeCasts_S1792_S1792x1) broadcasts_S1792x1_S1792x3072))))
      bitsLt_fp8e4m3_f32 : FVec Ideal S1792x3072 .fp8e4m3) (ix2 r j) = Row.code x s := by
  pointwise
  rw [hx, hs]; rfl

/-- An element over its row's scale. -/
theorem div_vec (X : FVec Ideal S1792x2048 .f32) (M : FVec Ideal S1792 .f32) (x s : EReal) (j : Fin 2048)
    (hx : X (ix2 r j) = x) (hs : M (ix1 r) = s) :
    (divf X (broadcastTo S1792x2048 (shapeCast S1792x1 M shapeCasts_S1792_S1792x1) broadcasts_S1792x1_S1792x2048)
      : FVec Ideal S1792x2048 .f32) (ix2 r j) = Ideal.div x s := by
  pointwise
  rw [hx, hs]

/-! ## The attention output and its quantisation -/

section Att

variable (v0 : Vec Ideal S1x1792x768 .f32) (A : Fin 768 → EReal)

/-- The result in the wider format. -/
theorem pay6_row (hA : ∀ j, v0 (ix3 0 r j) = A j) (j : Fin 768) : k0_pay6 v0 (ix3 0 r j) = A j := by
  pointwise [k0_pay6, k0_pay5]
  exact hA j

/-- A row's scale. -/
theorem pay9_row (hA : ∀ j, v0 (ix3 0 r j) = A j) : k0_pay9 v0 (ix1 r) = Row.scale A := by
  unfold k0_pay9
  refine scale_vec r _ _ ?_
  pointwise [k0_pay5]
  simp only [hA]; rfl

/-- A row's codes. -/
theorem pay10_row (hA : ∀ j, v0 (ix3 0 r j) = A j) (j : Fin 768) : k0_pay10 v0 (ix2 r j) = Row.codes A j := by
  have h := pay9_row r v0 A hA
  unfold k0_pay10
  refine codes_vec768 r _ _ _ _ j ?_ h
  pointwise [k0_pay5]
  exact hA j

theorem pay11_row (hA : ∀ j, v0 (ix3 0 r j) = A j) (j : Fin 768) : k0_pay11 v0 (ix3 0 r j) = Row.codes A j := by
  have h := pay10_row r v0 A hA j
  pointwise [k0_pay11]
  exact h

theorem pay12_row (hA : ∀ j, v0 (ix3 0 r j) = A j) : k0_pay12 v0 (ix2 0 r) = Row.scale A := by
  have h := pay9_row r v0 A hA
  pointwise [k0_pay12]
  exact h

end Att

/-! ## The other operands -/

theorem pay7_row (v6 : Vec Ideal S1x1792x3072 .bf16) (j : Fin 3072) : k0_pay7 v6 (ix2 r j) = v6 (ix3 0 r j) := by
  pointwise [k0_pay7]

theorem pay8_row (v9 : Vec Ideal S1x6x3072 .f32) (q : Fin 6) (j : Fin 3072) : k0_pay8 v9 (ix2 q j) = v9 (ix3 0 q j) := by
  pointwise [k0_pay8]

theorem pay13_row (v9 : Vec Ideal S1x6x3072 .f32) (j : Fin 3072) : k0_pay13 v9 (ix2 0 j) = v9 (ix3 0 2 j) := by
  pointwise [k0_pay13, k0_pay8]

/-! ## The projection, the normalised row and its quantisation -/

section Mid

variable (v8 : FVec Ideal S1792x3072 .f32) (v10 : FVec Ideal S6x3072 .f32) (v18 : FVec Ideal S1792 .f32)
  (v26 : FVec Ideal S1792x768 .fp8e4m3) (v33 : FVec Ideal S1x3072 .f32) (v34 : FVec Ideal S768x3072 .fp8e4m3)
  (v35 : FVec Ideal S3072 .f32) (W : Row.Params) (a : Fin 768 → EReal) (x : Fin 3072 → EReal)

/-- The row after the projection and its gated residual. -/
theorem pay14_row (h8 : ∀ j, v8 (ix2 r j) = x j) (h18 : v18 (ix1 r) = Row.scale a)
    (h26 : ∀ k, v26 (ix2 r k) = Row.codes a k) (h33 : ∀ j, v33 (ix2 0 j) = W.g1 j)
    (h34 : ∀ k j, v34 (ix2 k j) = W.wo k j) (h35 : ∀ j, v35 (ix1 j) = W.so j) (j : Fin 3072) :
    k0_pay14 v8 v18 v26 v33 v34 v35 (ix2 r j) = Row.mid W a x j := by
  pointwise [k0_pay14]
  simp only [h8, h18, h26, h33, h34, h35]
  rfl

/-- The normalised row. -/
theorem pay15_row (hm : ∀ j, k0_pay14 v8 v18 v26 v33 v34 v35 (ix2 r j) = Row.mid W a x j)
    (hsh : ∀ j, v10 (ix2 3 j) = W.sh j) (hsc : ∀ j, v10 (ix2 4 j) = W.sc j) (j : Fin 3072) :
    k0_pay15 v8 v10 v18 v26 v33 v34 v35 (ix2 r j) = Row.pre W a x j := by
  pointwise [k0_pay15]
  simp only [hm, hsh, hsc]
  rfl

/-- Its scale. -/
theorem pay16_row (h : ∀ j, k0_pay15 v8 v10 v18 v26 v33 v34 v35 (ix2 r j) = Row.pre W a x j) :
    k0_pay16 v8 v10 v18 v26 v33 v34 v35 (ix1 r) = Row.scale (Row.pre W a x) := by
  unfold k0_pay16
  refine scale_vec r _ _ ?_
  pointwise
  simp only [h]; rfl

/-- Its codes. -/
theorem pay17_row (h : ∀ j, k0_pay15 v8 v10 v18 v26 v33 v34 v35 (ix2 r j) = Row.pre W a x j) (j : Fin 3072) :
    k0_pay17 v8 v10 v18 v26 v33 v34 v35 (ix2 r j) = Row.codes (Row.pre W a x) j := by
  have h6 := pay16_row r v8 v10 v18 v26 v33 v34 v35 W a x h
  unfold k0_pay17
  exact codes_vec3072 r _ _ _ _ j (h j) h6

end Mid

theorem pay18_row (v79 : FVec Ideal S1792x3072 .fp8e4m3) (j : Fin 3072) : k0_pay18 v79 (ix3 0 r j) = v79 (ix2 r j) := by
  pointwise [k0_pay18]

theorem pay19_row (v71 : FVec Ideal S1792 .f32) : k0_pay19 v71 (ix2 0 r) = v71 (ix1 r) := by
  pointwise [k0_pay19]

/-! ## The hidden row, its quantisation and the output -/

section Hid

variable (v71 : FVec Ideal S1792 .f32) (v79 : FVec Ideal S1792x3072 .fp8e4m3) (v86 v95 : FVec Ideal S3072x2048 .fp8e4m3)
  (v87 v96 : FVec Ideal S2048 .f32) (W : Row.Params) (a : Fin 768 → EReal) (x : Fin 3072 → EReal)

/-- The hidden row. -/
theorem pay20_row (h71 : v71 (ix1 r) = Row.scale (Row.pre W a x)) (h79 : ∀ k, v79 (ix2 r k) = Row.codes (Row.pre W a x) k)
    (h86 : ∀ k j, v86 (ix2 k j) = W.w1 k j) (h87 : ∀ j, v87 (ix1 j) = W.s1 j)
    (h95 : ∀ k j, v95 (ix2 k j) = W.w3 k j) (h96 : ∀ j, v96 (ix1 j) = W.s3 j) (j : Fin 2048) :
    k0_pay20 v71 v79 v86 v87 v95 v96 (ix2 r j) = Row.hid W a x j := by
  pointwise [k0_pay20]
  simp only [h71, h79, h86, h87, h95, h96]
  rfl

variable (h : ∀ j, k0_pay20 v71 v79 v86 v87 v95 v96 (ix2 r j) = Row.hid W a x j)

include h

/-- Its scale. -/
theorem pay21_row : k0_pay21 v71 v79 v86 v87 v95 v96 (ix1 r) = Row.scale (Row.hid W a x) := by
  unfold k0_pay21
  refine scale_vec r _ _ ?_
  pointwise
  simp only [h]; rfl

/-- Its codes, before the clipping. -/
theorem pay22_row (j : Fin 2048) : k0_pay22 v71 v79 v86 v87 v95 v96 (ix2 r j)
    = Ideal.div (Row.hid W a x j) (Row.scale (Row.hid W a x)) := by
  have h1 := pay21_row r v71 v79 v86 v95 v87 v96 W a x h
  unfold k0_pay22
  exact div_vec r _ _ _ _ j (h j) h1

end Hid

section Out

variable (v10 : FVec Ideal S6x3072 .f32) (v45 : FVec Ideal S1792x3072 .f32) (v114 : FVec Ideal S1792 .f32)
  (v117 : FVec Ideal S1792x2048 .f32) (v130 : FVec Ideal S2048x3072 .fp8e4m3) (v131 : FVec Ideal S3072 .f32)
  (W : Row.Params) (a : Fin 768 → EReal) (x : Fin 3072 → EReal)
  (h117 : ∀ j, v117 (ix2 r j) = Ideal.div (Row.hid W a x j) (Row.scale (Row.hid W a x)))

include h117

/-- The codes of the hidden row. -/
theorem pay1_row (j : Fin 2048) : k0_pay1 v117 (Scalar.ofBits .f32 0x43E00000#32) (k0_pay23 (F := Ideal)) (ix2 r j)
    = Row.codes (Row.hid W a x) j := by
  pointwise [k0_pay1, k0_pay23]
  rw [h117]; rfl

theorem pay2_row (j : Fin 2048) : k0_pay2 v117 (Scalar.ofBits .f32 0x43E00000#32) (k0_pay23 (F := Ideal)) (ix3 0 r j)
    = Row.codes (Row.hid W a x) j := by
  have h := pay1_row r v117 W a x h117 j
  pointwise [k0_pay2]
  exact h

/-- The output row. -/
theorem pay4_row (h5 : ∀ j, v10 (ix2 5 j) = W.g2 j) (h45 : ∀ j, v45 (ix2 r j) = Row.mid W a x j)
    (h114 : v114 (ix1 r) = Row.scale (Row.hid W a x)) (h130 : ∀ k j, v130 (ix2 k j) = W.w2 k j)
    (h131 : ∀ j, v131 (ix1 j) = W.s2 j) (j : Fin 3072) :
    k0_pay4 v10 v45 v114 v117 (Scalar.ofBits .f32 0x43E00000#32) (k0_pay23 (F := Ideal)) v130 v131 (ix3 0 r j)
      = Row.out W a x j := by
  have h : ∀ j, k0_pay1 v117 (Ideal.ofBits .f32 0x43E00000#32) (k0_pay23 (F := Ideal)) (ix2 r j) = Row.codes (Row.hid W a x) j :=
    pay1_row r v117 W a x h117
  pointwise [k0_pay4]
  simp only [h, h5, h45, h114, h130, h131]
  rfl

end Out

theorem pay3_row (v114 : FVec Ideal S1792 .f32) : k0_pay3 v114 (ix2 0 r) = v114 (ix1 r) := by
  pointwise [k0_pay3]

end Cert.ReferenceIdeal.Hand

end
-- ==== Proof.RefOuts.lean ====
/-
  What the reference's body leaves in each result, row by row.
-/
module

public import proofs.«01_k».proof.Proof.Gen.ReferenceIdeal.Frame
public import Idealize.ShloMosaic.Lib.Pipeline.ValueKit
public import proofs.«01_k».proof.Proof.RefRows
public import proofs.«01_k».proof.Proof.Whole

@[expose] public section

set_option maxRecDepth 16384

noncomputable section

namespace Cert.ReferenceIdeal.Hand

open Idealize.ShloMosaic Idealize.ShloMosaic.TcCoe
open Cert.ReferenceIdeal Cert.ReferenceIdeal.Gen

section Outs

variable (x0 : Vec Ideal S1x1792x3072 .bf16) (x1 : Vec Ideal S1x1792x768 .f32) (x2 : Vec Ideal S1x6x3072 .f32)
  (x3 : Vec Ideal S768x3072 .fp8e4m3) (x4 : Vec Ideal S3072 .f32) (x5 : Vec Ideal S3072x2048 .fp8e4m3)
  (x6 : Vec Ideal S2048 .f32) (x7 : Vec Ideal S3072x2048 .fp8e4m3) (x8 : Vec Ideal S2048 .f32)
  (x9 : Vec Ideal S2048x3072 .fp8e4m3) (x10 : Vec Ideal S3072 .f32) (r : Fin 1792)
  (a : Fin 768 → EReal) (x : Fin 3072 → EReal)

/-- The row after the projection. -/
theorem mid_row (ha : ∀ j, x1 (ix3 0 r j) = a j) (hx : ∀ j, x0 (ix3 0 r j) = x j) (j : Fin 3072) :
    k0_pay14 (k0_pay7 x0) (k0_pay9 x1) (k0_pay10 x1) (k0_pay13 x2) x3 x4 (ix2 r j) = Row.mid (Whole.params x2 x3 x4 x5 x6 x7 x8 x9 x10) a x j :=
  pay14_row r _ _ _ _ _ _ (Whole.params x2 x3 x4 x5 x6 x7 x8 x9 x10) a x (fun j => (pay7_row r x0 j).trans (hx j)) (pay9_row r x1 a ha) (pay10_row r x1 a ha)
    (fun j => pay13_row x2 j) (fun _ _ => rfl) (fun _ => rfl) j

/-- The normalised row. -/
theorem pre_row (ha : ∀ j, x1 (ix3 0 r j) = a j) (hx : ∀ j, x0 (ix3 0 r j) = x j) (j : Fin 3072) :
    k0_pay15 (k0_pay7 x0) (k0_pay8 x2) (k0_pay9 x1) (k0_pay10 x1) (k0_pay13 x2) x3 x4 (ix2 r j) = Row.pre (Whole.params x2 x3 x4 x5 x6 x7 x8 x9 x10) a x j :=
  pay15_row r _ _ _ _ _ _ _ (Whole.params x2 x3 x4 x5 x6 x7 x8 x9 x10) a x (mid_row x0 x1 x2 x3 x4 x5 x6 x7 x8 x9 x10 r a x ha hx) (fun j => pay8_row x2 3 j) (fun j => pay8_row x2 4 j) j

/-- Its scale. -/
theorem preScale_row (ha : ∀ j, x1 (ix3 0 r j) = a j) (hx : ∀ j, x0 (ix3 0 r j) = x j) :
    k0_pay16 (k0_pay7 x0) (k0_pay8 x2) (k0_pay9 x1) (k0_pay10 x1) (k0_pay13 x2) x3 x4 (ix1 r) = Row.scale (Row.pre (Whole.params x2 x3 x4 x5 x6 x7 x8 x9 x10) a x) :=
  pay16_row r _ _ _ _ _ _ _ (Whole.params x2 x3 x4 x5 x6 x7 x8 x9 x10) a x (pre_row x0 x1 x2 x3 x4 x5 x6 x7 x8 x9 x10 r a x ha hx)

/-- Its codes. -/
theorem preCodes_row (ha : ∀ j, x1 (ix3 0 r j) = a j) (hx : ∀ j, x0 (ix3 0 r j) = x j) (j : Fin 3072) :
    k0_pay17 (k0_pay7 x0) (k0_pay8 x2) (k0_pay9 x1) (k0_pay10 x1) (k0_pay13 x2) x3 x4 (ix2 r j) = Row.codes (Row.pre (Whole.params x2 x3 x4 x5 x6 x7 x8 x9 x10) a x) j :=
  pay17_row r _ _ _ _ _ _ _ (Whole.params x2 x3 x4 x5 x6 x7 x8 x9 x10) a x (pre_row x0 x1 x2 x3 x4 x5 x6 x7 x8 x9 x10 r a x ha hx) j

/-- The hidden row. -/
theorem hid_row (ha : ∀ j, x1 (ix3 0 r j) = a j) (hx : ∀ j, x0 (ix3 0 r j) = x j) (j : Fin 2048) :
    k0_pay20 (k0_pay16 (k0_pay7 x0) (k0_pay8 x2) (k0_pay9 x1) (k0_pay10 x1) (k0_pay13 x2) x3 x4) (k0_pay17 (k0_pay7 x0) (k0_pay8 x2) (k0_pay9 x1) (k0_pay10 x1) (k0_pay13 x2) x3 x4) x5 x6 x7 x8 (ix2 r j) = Row.hid (Whole.params x2 x3 x4 x5 x6 x7 x8 x9 x10) a x j :=
  pay20_row r _ _ _ _ _ _ (Whole.params x2 x3 x4 x5 x6 x7 x8 x9 x10) a x (preScale_row x0 x1 x2 x3 x4 x5 x6 x7 x8 x9 x10 r a x ha hx)
    (preCodes_row x0 x1 x2 x3 x4 x5 x6 x7 x8 x9 x10 r a x ha hx) (fun _ _ => rfl) (fun _ => rfl) (fun _ _ => rfl) (fun _ => rfl) j

/-- Its scale. -/
theorem hidScale_row (ha : ∀ j, x1 (ix3 0 r j) = a j) (hx : ∀ j, x0 (ix3 0 r j) = x j) :
    k0_pay21 (k0_pay16 (k0_pay7 x0) (k0_pay8 x2) (k0_pay9 x1) (k0_pay10 x1) (k0_pay13 x2) x3 x4) (k0_pay17 (k0_pay7 x0) (k0_pay8 x2) (k0_pay9 x1) (k0_pay10 x1) (k0_pay13 x2) x3 x4) x5 x6 x7 x8 (ix1 r) = Row.scale (Row.hid (Whole.params x2 x3 x4 x5 x6 x7 x8 x9 x10) a x) :=
  pay21_row r _ _ _ _ _ _ (Whole.params x2 x3 x4 x5 x6 x7 x8 x9 x10) a x (hid_row x0 x1 x2 x3 x4 x5 x6 x7 x8 x9 x10 r a x ha hx)

/-- Its quotients by the scale. -/
theorem hidQuot_row (ha : ∀ j, x1 (ix3 0 r j) = a j) (hx : ∀ j, x0 (ix3 0 r j) = x j) (j : Fin 2048) :
    k0_pay22 (k0_pay16 (k0_pay7 x0) (k0_pay8 x2) (k0_pay9 x1) (k0_pay10 x1) (k0_pay13 x2) x3 x4) (k0_pay17 (k0_pay7 x0) (k0_pay8 x2) (k0_pay9 x1) (k0_pay10 x1) (k0_pay13 x2) x3 x4) x5 x6 x7 x8 (ix2 r j) = Ideal.div (Row.hid (Whole.params x2 x3 x4 x5 x6 x7 x8 x9 x10) a x j) (Row.scale (Row.hid (Whole.params x2 x3 x4 x5 x6 x7 x8 x9 x10) a x)) :=
  pay22_row r _ _ _ _ _ _ (Whole.params x2 x3 x4 x5 x6 x7 x8 x9 x10) a x (hid_row x0 x1 x2 x3 x4 x5 x6 x7 x8 x9 x10 r a x ha hx) j

/-! ## The results -/

/-- The attention output. -/
theorem out11_row (ha : ∀ j, x1 (ix3 0 r j) = a j) (j : Fin 768) : out0_11 x0 x1 x2 x3 x4 x5 x6 x7 x8 x9 x10 (ix3 0 r j) = a j := by
  unfold_out out0_11
  frame_out
  exact pay6_row r x1 a ha j

/-- The output. -/
theorem out12_row (ha : ∀ j, x1 (ix3 0 r j) = a j) (hx : ∀ j, x0 (ix3 0 r j) = x j) (j : Fin 3072) : out0_12 x0 x1 x2 x3 x4 x5 x6 x7 x8 x9 x10 (ix3 0 r j) = Row.out (Whole.params x2 x3 x4 x5 x6 x7 x8 x9 x10) a x j := by
  unfold_out out0_12
  frame_out
  exact pay4_row r _ _ _ _ _ _ (Whole.params x2 x3 x4 x5 x6 x7 x8 x9 x10) a x (hidQuot_row x0 x1 x2 x3 x4 x5 x6 x7 x8 x9 x10 r a x ha hx) (fun j => pay8_row x2 5 j) (mid_row x0 x1 x2 x3 x4 x5 x6 x7 x8 x9 x10 r a x ha hx) (hidScale_row x0 x1 x2 x3 x4 x5 x6 x7 x8 x9 x10 r a x ha hx) (fun _ _ => rfl) (fun _ => rfl) j

/-- The codes of the attention output. -/
theorem out13_row (ha : ∀ j, x1 (ix3 0 r j) = a j) (j : Fin 768) : out0_13 x0 x1 x2 x3 x4 x5 x6 x7 x8 x9 x10 (ix3 0 r j) = Row.codes a j := by
  unfold_out out0_13
  frame_out
  exact pay11_row r x1 a ha j

/-- Their scales. -/
theorem out14_row (ha : ∀ j, x1 (ix3 0 r j) = a j) : out0_14 x0 x1 x2 x3 x4 x5 x6 x7 x8 x9 x10 (ix2 0 r) = Row.scale a := by
  unfold_out out0_14
  frame_out
  exact pay12_row r x1 a ha

/-- The codes of the normalised rows. -/
theorem out15_row (ha : ∀ j, x1 (ix3 0 r j) = a j) (hx : ∀ j, x0 (ix3 0 r j) = x j) (j : Fin 3072) : out0_15 x0 x1 x2 x3 x4 x5 x6 x7 x8 x9 x10 (ix3 0 r j) = Row.codes (Row.pre (Whole.params x2 x3 x4 x5 x6 x7 x8 x9 x10) a x) j := by
  unfold_out out0_15
  frame_out
  exact (pay18_row r _ j).trans (preCodes_row x0 x1 x2 x3 x4 x5 x6 x7 x8 x9 x10 r a x ha hx j)

/-- Their scales. -/
theorem out16_row (ha : ∀ j, x1 (ix3 0 r j) = a j) (hx : ∀ j, x0 (ix3 0 r j) = x j) : out0_16 x0 x1 x2 x3 x4 x5 x6 x7 x8 x9 x10 (ix2 0 r) = Row.scale (Row.pre (Whole.params x2 x3 x4 x5 x6 x7 x8 x9 x10) a x) := by
  unfold_out out0_16
  frame_out
  exact (pay19_row r _).trans (preScale_row x0 x1 x2 x3 x4 x5 x6 x7 x8 x9 x10 r a x ha hx)

/-- The codes of the hidden rows. -/
theorem out17_row (ha : ∀ j, x1 (ix3 0 r j) = a j) (hx : ∀ j, x0 (ix3 0 r j) = x j) (j : Fin 2048) : out0_17 x0 x1 x2 x3 x4 x5 x6 x7 x8 x9 x10 (ix3 0 r j) = Row.codes (Row.hid (Whole.params x2 x3 x4 x5 x6 x7 x8 x9 x10) a x) j := by
  unfold_out out0_17
  frame_out
  exact pay2_row r _ (Whole.params x2 x3 x4 x5 x6 x7 x8 x9 x10) a x (hidQuot_row x0 x1 x2 x3 x4 x5 x6 x7 x8 x9 x10 r a x ha hx) j

/-- Their scales. -/
theorem out18_row (ha : ∀ j, x1 (ix3 0 r j) = a j) (hx : ∀ j, x0 (ix3 0 r j) = x j) : out0_18 x0 x1 x2 x3 x4 x5 x6 x7 x8 x9 x10 (ix2 0 r) = Row.scale (Row.hid (Whole.params x2 x3 x4 x5 x6 x7 x8 x9 x10) a x) := by
  unfold_out out0_18
  frame_out
  exact (pay3_row r _).trans (hidScale_row x0 x1 x2 x3 x4 x5 x6 x7 x8 x9 x10 r a x ha hx)

end Outs

end Cert.ReferenceIdeal.Hand

end
-- ==== Proof.RefValue.lean ====
/-
  The reference's result arrays after a run, as functions of the argument arrays.
-/
module

public import proofs.«01_k».proof.Proof.RefOuts

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Hand

/-- A multi-index with a leading unit axis, by its other coordinates. -/
theorem idx3 {a b : ℕ} (y : (⟨3, ![1, a, b]⟩ : Shape).Idx) : y = ix3 0 (y 1) (y 2) := by
  funext x
  match x with
  | ⟨0, _⟩ => exact Subsingleton.elim (α := Fin 1) _ _
  | ⟨1, _⟩ => rfl
  | ⟨2, _⟩ => rfl

theorem idx2 {a : ℕ} (y : (⟨2, ![1, a]⟩ : Shape).Idx) : y = ix2 0 (y 1) := by
  funext x
  match x with
  | ⟨0, _⟩ => exact Subsingleton.elim (α := Fin 1) _ _
  | ⟨1, _⟩ => rfl

variable (m : (ℓ : Loc nD τ sig) → Buf (Elt Ideal) ℓ)

/-- Every operand and result is taken whole. -/
theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0]
    ∧ win0_5.index t = ![0, 0]
    ∧ win0_6.index t = ![0]
    ∧ win0_7.index t = ![0, 0]
    ∧ win0_8.index t = ![0]
    ∧ win0_9.index t = ![0, 0]
    ∧ win0_10.index t = ![0]
    ∧ win0_11.index t = ![0, 0, 0]
    ∧ win0_12.index t = ![0, 0, 0]
    ∧ win0_13.index t = ![0, 0, 0]
    ∧ win0_14.index t = ![0, 0]
    ∧ win0_15.index t = ![0, 0, 0]
    ∧ win0_16.index t = ![0, 0]
    ∧ win0_17.index t = ![0, 0, 0]
    ∧ win0_18.index t = ![0, 0] :=
  (by decide +kernel : ∀ t : Fin grid0.N, _)

/-- The parameters of device `c`'s run. -/
def par (c : Dev nD) : Row.Params :=
  Whole.params (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- Operand 0 is its whole array. -/
theorem blk0 (c : Dev nD) : iblk m c 0 t0_0 = m ((c : Thread nD τ).loc main_arg0) := by
  blk_ext! [iblk, V, idx t0_0]

/-- Operand 2 is its whole array. -/
theorem blk2 (c : Dev nD) : iblk m c 2 t0_0 = m ((c : Thread nD τ).loc main_arg2) := by
  blk_ext! [iblk, V, idx t0_0]

/-- Operand 3 is its whole array. -/
theorem blk3 (c : Dev nD) : iblk m c 3 t0_0 = m ((c : Thread nD τ).loc main_arg3) := by
  blk_ext! [iblk, V, idx t0_0]

/-- Operand 4 is its whole array. -/
theorem blk4 (c : Dev nD) : iblk m c 4 t0_0 = m ((c : Thread nD τ).loc main_arg4) := by
  blk_ext! [iblk, V, idx t0_0]

/-- Operand 5 is its whole array. -/
theorem blk5 (c : Dev nD) : iblk m c 5 t0_0 = m ((c : Thread nD τ).loc main_arg5) := by
  blk_ext! [iblk, V, idx t0_0]

/-- Operand 6 is its whole array. -/
theorem blk6 (c : Dev nD) : iblk m c 6 t0_0 = m ((c : Thread nD τ).loc main_arg6) := by
  blk_ext! [iblk, V, idx t0_0]

/-- Operand 7 is its whole array. -/
theorem blk7 (c : Dev nD) : iblk m c 7 t0_0 = m ((c : Thread nD τ).loc main_arg7) := by
  blk_ext! [iblk, V, idx t0_0]

/-- Operand 8 is its whole array. -/
theorem blk8 (c : Dev nD) : iblk m c 8 t0_0 = m ((c : Thread nD τ).loc main_arg8) := by
  blk_ext! [iblk, V, idx t0_0]

/-- Operand 9 is its whole array. -/
theorem blk9 (c : Dev nD) : iblk m c 9 t0_0 = m ((c : Thread nD τ).loc main_arg9) := by
  blk_ext! [iblk, V, idx t0_0]

/-- Operand 10 is its whole array. -/
theorem blk10 (c : Dev nD) : iblk m c 10 t0_0 = m ((c : Thread nD τ).loc main_arg10) := by
  blk_ext! [iblk, V, idx t0_0]

/-- A row of the attention operand is six consecutive rows of the argument. -/
theorem blk1 (c : Dev nD) (r : Fin 1792) (j : Fin 768) :
    iblk m c 1 t0_0 (ix3 0 r j) = Whole.att (m ((c : Thread nD τ).loc main_arg1)) r j := by
  unfold Whole.att
  blk_simp [iblk]
  entry_read
  pointwise
  blk_ext [idx t0_0]

/-- The attention output: what the body leaves at row `r`. -/
theorem point11 (c : Dev nD) (r : Fin 1792) (j : Fin 768) :
    out0_11 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix3 0 r j) = Whole.attn (m ((c : Thread nD τ).loc main_arg1)) (ix3 0 r j) := by
  exact out11_row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r (Whole.att (m ((c : Thread nD τ).loc main_arg1)) r) (blk1 m c r) j

/-- The attention output after the run. -/
theorem final11 (c : Dev nD) : (dats m 0 c).arrAt 11 (cfgs 0).N
    = Whole.attn (m ((c : Thread nD τ).loc main_arg1)) := by
  refine (dats m 0 c).arrAt_eq_of_after_last 11 t0_0 (by decide +kernel) _ fun y => ?_
  blk_simp [idx t0_0]
  rw [after0_11]
  have hp : ∀ y : S1x1792x768.Idx, out0_11 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) y = Whole.attn (m ((c : Thread nD τ).loc main_arg1)) y := by
    intro y
    have hy : y = ix3 0 (y 1) (y 2) := idx3 y
    exact (congrArg (out0_11 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) hy).trans ((point11 m c (y 1) (y 2)).trans (congrArg (Whole.attn (m ((c : Thread nD τ).loc main_arg1))) hy.symm))
  exact hp y

/-- A row of the residual operand is the argument's. -/
theorem xin_row (c : Dev nD) (r : Fin 1792) (j : Fin 3072) : iblk m c 0 t0_0 (ix3 0 r j) = Whole.xin (m ((c : Thread nD τ).loc main_arg0)) r j := by
  unfold Whole.xin
  exact congrFun (blk0 m c) _

/-- The operands' parameters are the arguments'. -/
theorem par_eq (c : Dev nD) : Whole.params (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) = par m c := by
  unfold par
  rw [blk2, blk3, blk4, blk5, blk6, blk7, blk8, blk9, blk10]

/-- The output: what the body leaves at row `r`. -/
theorem point12 (c : Dev nD) (r : Fin 1792) (j : Fin 3072) :
    out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix3 0 r j) = Whole.out (par m c) (m ((c : Thread nD τ).loc main_arg0)) (m ((c : Thread nD τ).loc main_arg1)) (ix3 0 r j) := by
  have h := out12_row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r (Whole.att (m ((c : Thread nD τ).loc main_arg1)) r) (Whole.xin (m ((c : Thread nD τ).loc main_arg0)) r) (blk1 m c r) (xin_row m c r) j
  rw [par_eq] at h
  exact h

/-- The output after the run. -/
theorem final12 (c : Dev nD) : (dats m 0 c).arrAt 12 (cfgs 0).N
    = Whole.out (par m c) (m ((c : Thread nD τ).loc main_arg0)) (m ((c : Thread nD τ).loc main_arg1)) := by
  refine (dats m 0 c).arrAt_eq_of_after_last 12 t0_0 (by decide +kernel) _ fun y => ?_
  blk_simp [idx t0_0]
  rw [after0_12]
  have hp : ∀ y : S1x1792x3072.Idx, out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) y = Whole.out (par m c) (m ((c : Thread nD τ).loc main_arg0)) (m ((c : Thread nD τ).loc main_arg1)) y := by
    intro y
    have hy : y = ix3 0 (y 1) (y 2) := idx3 y
    exact (congrArg (out0_12 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) hy).trans ((point12 m c (y 1) (y 2)).trans (congrArg (Whole.out (par m c) (m ((c : Thread nD τ).loc main_arg0)) (m ((c : Thread nD τ).loc main_arg1))) hy.symm))
  exact hp y

/-- The codes of the attention output: what the body leaves at row `r`. -/
theorem point13 (c : Dev nD) (r : Fin 1792) (j : Fin 768) :
    out0_13 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix3 0 r j) = Whole.attnCodes (m ((c : Thread nD τ).loc main_arg1)) (ix3 0 r j) := by
  exact out13_row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r (Whole.att (m ((c : Thread nD τ).loc main_arg1)) r) (blk1 m c r) j

/-- The codes of the attention output after the run. -/
theorem final13 (c : Dev nD) : (dats m 0 c).arrAt 13 (cfgs 0).N
    = Whole.attnCodes (m ((c : Thread nD τ).loc main_arg1)) := by
  refine (dats m 0 c).arrAt_eq_of_after_last 13 t0_0 (by decide +kernel) _ fun y => ?_
  blk_simp [idx t0_0]
  rw [after0_13]
  have hp : ∀ y : S1x1792x768.Idx, out0_13 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) y = Whole.attnCodes (m ((c : Thread nD τ).loc main_arg1)) y := by
    intro y
    have hy : y = ix3 0 (y 1) (y 2) := idx3 y
    exact (congrArg (out0_13 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) hy).trans ((point13 m c (y 1) (y 2)).trans (congrArg (Whole.attnCodes (m ((c : Thread nD τ).loc main_arg1))) hy.symm))
  exact hp y

/-- Their scales: what the body leaves at row `r`. -/
theorem point14 (c : Dev nD) (r : Fin 1792) :
    out0_14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix2 0 r) = Whole.attnScales (m ((c : Thread nD τ).loc main_arg1)) (ix2 0 r) := by
  exact out14_row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r (Whole.att (m ((c : Thread nD τ).loc main_arg1)) r) (blk1 m c r)

/-- Their scales after the run. -/
theorem final14 (c : Dev nD) : (dats m 0 c).arrAt 14 (cfgs 0).N
    = Whole.attnScales (m ((c : Thread nD τ).loc main_arg1)) := by
  refine (dats m 0 c).arrAt_eq_of_after_last 14 t0_0 (by decide +kernel) _ fun y => ?_
  blk_simp [idx t0_0]
  rw [after0_14]
  have hp : ∀ y : S1x1792.Idx, out0_14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) y = Whole.attnScales (m ((c : Thread nD τ).loc main_arg1)) y := by
    intro y
    have hy : y = ix2 0 (y 1) := idx2 y
    exact (congrArg (out0_14 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) hy).trans ((point14 m c (y 1)).trans (congrArg (Whole.attnScales (m ((c : Thread nD τ).loc main_arg1))) hy.symm))
  exact hp y

/-- The codes of the normalised rows: what the body leaves at row `r`. -/
theorem point15 (c : Dev nD) (r : Fin 1792) (j : Fin 3072) :
    out0_15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix3 0 r j) = Whole.preCodes (par m c) (m ((c : Thread nD τ).loc main_arg0)) (m ((c : Thread nD τ).loc main_arg1)) (ix3 0 r j) := by
  have h := out15_row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r (Whole.att (m ((c : Thread nD τ).loc main_arg1)) r) (Whole.xin (m ((c : Thread nD τ).loc main_arg0)) r) (blk1 m c r) (xin_row m c r) j
  rw [par_eq] at h
  exact h

/-- The codes of the normalised rows after the run. -/
theorem final15 (c : Dev nD) : (dats m 0 c).arrAt 15 (cfgs 0).N
    = Whole.preCodes (par m c) (m ((c : Thread nD τ).loc main_arg0)) (m ((c : Thread nD τ).loc main_arg1)) := by
  refine (dats m 0 c).arrAt_eq_of_after_last 15 t0_0 (by decide +kernel) _ fun y => ?_
  blk_simp [idx t0_0]
  rw [after0_15]
  have hp : ∀ y : S1x1792x3072.Idx, out0_15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) y = Whole.preCodes (par m c) (m ((c : Thread nD τ).loc main_arg0)) (m ((c : Thread nD τ).loc main_arg1)) y := by
    intro y
    have hy : y = ix3 0 (y 1) (y 2) := idx3 y
    exact (congrArg (out0_15 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) hy).trans ((point15 m c (y 1) (y 2)).trans (congrArg (Whole.preCodes (par m c) (m ((c : Thread nD τ).loc main_arg0)) (m ((c : Thread nD τ).loc main_arg1))) hy.symm))
  exact hp y

/-- Their scales: what the body leaves at row `r`. -/
theorem point16 (c : Dev nD) (r : Fin 1792) :
    out0_16 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix2 0 r) = Whole.preScales (par m c) (m ((c : Thread nD τ).loc main_arg0)) (m ((c : Thread nD τ).loc main_arg1)) (ix2 0 r) := by
  have h := out16_row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r (Whole.att (m ((c : Thread nD τ).loc main_arg1)) r) (Whole.xin (m ((c : Thread nD τ).loc main_arg0)) r) (blk1 m c r) (xin_row m c r)
  rw [par_eq] at h
  exact h

/-- Their scales after the run. -/
theorem final16 (c : Dev nD) : (dats m 0 c).arrAt 16 (cfgs 0).N
    = Whole.preScales (par m c) (m ((c : Thread nD τ).loc main_arg0)) (m ((c : Thread nD τ).loc main_arg1)) := by
  refine (dats m 0 c).arrAt_eq_of_after_last 16 t0_0 (by decide +kernel) _ fun y => ?_
  blk_simp [idx t0_0]
  rw [after0_16]
  have hp : ∀ y : S1x1792.Idx, out0_16 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) y = Whole.preScales (par m c) (m ((c : Thread nD τ).loc main_arg0)) (m ((c : Thread nD τ).loc main_arg1)) y := by
    intro y
    have hy : y = ix2 0 (y 1) := idx2 y
    exact (congrArg (out0_16 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) hy).trans ((point16 m c (y 1)).trans (congrArg (Whole.preScales (par m c) (m ((c : Thread nD τ).loc main_arg0)) (m ((c : Thread nD τ).loc main_arg1))) hy.symm))
  exact hp y

/-- The codes of the hidden rows: what the body leaves at row `r`. -/
theorem point17 (c : Dev nD) (r : Fin 1792) (j : Fin 2048) :
    out0_17 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix3 0 r j) = Whole.hidCodes (par m c) (m ((c : Thread nD τ).loc main_arg0)) (m ((c : Thread nD τ).loc main_arg1)) (ix3 0 r j) := by
  have h := out17_row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r (Whole.att (m ((c : Thread nD τ).loc main_arg1)) r) (Whole.xin (m ((c : Thread nD τ).loc main_arg0)) r) (blk1 m c r) (xin_row m c r) j
  rw [par_eq] at h
  exact h

/-- The codes of the hidden rows after the run. -/
theorem final17 (c : Dev nD) : (dats m 0 c).arrAt 17 (cfgs 0).N
    = Whole.hidCodes (par m c) (m ((c : Thread nD τ).loc main_arg0)) (m ((c : Thread nD τ).loc main_arg1)) := by
  refine (dats m 0 c).arrAt_eq_of_after_last 17 t0_0 (by decide +kernel) _ fun y => ?_
  blk_simp [idx t0_0]
  rw [after0_17]
  have hp : ∀ y : S1x1792x2048.Idx, out0_17 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) y = Whole.hidCodes (par m c) (m ((c : Thread nD τ).loc main_arg0)) (m ((c : Thread nD τ).loc main_arg1)) y := by
    intro y
    have hy : y = ix3 0 (y 1) (y 2) := idx3 y
    exact (congrArg (out0_17 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) hy).trans ((point17 m c (y 1) (y 2)).trans (congrArg (Whole.hidCodes (par m c) (m ((c : Thread nD τ).loc main_arg0)) (m ((c : Thread nD τ).loc main_arg1))) hy.symm))
  exact hp y

/-- Their scales: what the body leaves at row `r`. -/
theorem point18 (c : Dev nD) (r : Fin 1792) :
    out0_18 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (ix2 0 r) = Whole.hidScales (par m c) (m ((c : Thread nD τ).loc main_arg0)) (m ((c : Thread nD τ).loc main_arg1)) (ix2 0 r) := by
  have h := out18_row (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) r (Whole.att (m ((c : Thread nD τ).loc main_arg1)) r) (Whole.xin (m ((c : Thread nD τ).loc main_arg0)) r) (blk1 m c r) (xin_row m c r)
  rw [par_eq] at h
  exact h

/-- Their scales after the run. -/
theorem final18 (c : Dev nD) : (dats m 0 c).arrAt 18 (cfgs 0).N
    = Whole.hidScales (par m c) (m ((c : Thread nD τ).loc main_arg0)) (m ((c : Thread nD τ).loc main_arg1)) := by
  refine (dats m 0 c).arrAt_eq_of_after_last 18 t0_0 (by decide +kernel) _ fun y => ?_
  blk_simp [idx t0_0]
  rw [after0_18]
  have hp : ∀ y : S1x1792.Idx, out0_18 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) y = Whole.hidScales (par m c) (m ((c : Thread nD τ).loc main_arg0)) (m ((c : Thread nD τ).loc main_arg1)) y := by
    intro y
    have hy : y = ix2 0 (y 1) := idx2 y
    exact (congrArg (out0_18 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0)) hy).trans ((point18 m c (y 1)).trans (congrArg (Whole.hidScales (par m c) (m ((c : Thread nD τ).loc main_arg0)) (m ((c : Thread nD τ).loc main_arg1))) hy.symm))
  exact hp y

end Cert.ReferenceIdeal.Value

end
-- ==== Proof.lean ====
/-
  The five claims together: the three programs run to the end with their arguments unchanged and every counter at zero, the
  idealised kernel is the kernel's own text, and at the extended reals the kernel and the reference leave the same eight
  arrays — both are shown to leave the arrays of Proof/Whole.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.Run
public import proofs.«01_k».proof.Proof.Value
public import proofs.«01_k».proof.Proof.RefValue
public import Idealize.ShloMosaic.Adequacy
public import Idealize.ShloMosaic.Init

@[expose] public section

noncomputable section

namespace Cert.Proof

open Idealize.ShloMosaic Idealize.SL.Sem

/-- The kernel's run at the extended reals: the eight results are the arrays of Proof/Whole.lean, the arguments are unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5_0) = Cert.Whole.attn (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v5_1) = Cert.Whole.out (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v5_2) = Cert.Whole.attnCodes (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v5_3) = Cert.Whole.attnScales (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v5_4) = Cert.Whole.preCodes (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v5_5) = Cert.Whole.preScales (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v5_6) = Cert.Whole.hidCodes (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_v5_7) = Cert.Whole.hidScales (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run _ _ _).mono (fun r h c => ⟨((h.1 c).1 11).trans (Cert.KernelIdeal.Value.final11 m c), ((h.1 c).1 12).trans (Cert.KernelIdeal.Value.final12 m c), ((h.1 c).1 13).trans (Cert.KernelIdeal.Value.final13 m c), ((h.1 c).1 14).trans (Cert.KernelIdeal.Value.final14 m c), ((h.1 c).1 15).trans (Cert.KernelIdeal.Value.final15 m c), ((h.1 c).1 16).trans (Cert.KernelIdeal.Value.final16 m c), ((h.1 c).1 17).trans (Cert.KernelIdeal.Value.final17 m c), ((h.1 c).1 18).trans (Cert.KernelIdeal.Value.final18 m c), h.2 c⟩)
    (θ_run_and (Cert.KernelIdeal.Hand.run_main m g) (Cert.KernelIdeal.Hand.unchanged m g))

/-- The reference's run: the same eight arrays of its own arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v2_0) = Cert.Whole.attn (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v2_1) = Cert.Whole.out (Cert.ReferenceIdeal.Value.par m c) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v2_2) = Cert.Whole.attnCodes (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v2_3) = Cert.Whole.attnScales (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v2_4) = Cert.Whole.preCodes (Cert.ReferenceIdeal.Value.par m c) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v2_5) = Cert.Whole.preScales (Cert.ReferenceIdeal.Value.par m c) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v2_6) = Cert.Whole.hidCodes (Cert.ReferenceIdeal.Value.par m c) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v2_7) = Cert.Whole.hidScales (Cert.ReferenceIdeal.Value.par m c) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run _ _ _).mono (fun r h c => ⟨((h.1 c).1 11).trans (Cert.ReferenceIdeal.Value.final11 m c), ((h.1 c).1 12).trans (Cert.ReferenceIdeal.Value.final12 m c), ((h.1 c).1 13).trans (Cert.ReferenceIdeal.Value.final13 m c), ((h.1 c).1 14).trans (Cert.ReferenceIdeal.Value.final14 m c), ((h.1 c).1 15).trans (Cert.ReferenceIdeal.Value.final15 m c), ((h.1 c).1 16).trans (Cert.ReferenceIdeal.Value.final16 m c), ((h.1 c).1 17).trans (Cert.ReferenceIdeal.Value.final17 m c), ((h.1 c).1 18).trans (Cert.ReferenceIdeal.Value.final18 m c), h.2 c⟩)
    (θ_run_and (Cert.ReferenceIdeal.Gen.run_main m g) (Cert.ReferenceIdeal.Gen.unchanged m g))

/-- Equal arguments give equal parameters. -/
theorem params_congr {x2 y2 : Cert.Whole.A3 1 6 3072} {x3 y3 : Cert.Whole.A2 768 3072} {x4 y4 : Cert.Whole.A1 3072} {x5 y5 : Cert.Whole.A2 3072 2048}
    {x6 y6 : Cert.Whole.A1 2048} {x7 y7 : Cert.Whole.A2 3072 2048} {x8 y8 : Cert.Whole.A1 2048} {x9 y9 : Cert.Whole.A2 2048 3072} {x10 y10 : Cert.Whole.A1 3072}
    (h2 : x2 = y2) (h3 : x3 = y3) (h4 : x4 = y4) (h5 : x5 = y5) (h6 : x6 = y6) (h7 : x7 = y7) (h8 : x8 = y8) (h9 : x9 = y9) (h10 : x10 = y10) :
    Cert.Whole.params x2 x3 x4 x5 x6 x7 x8 x9 x10 = Cert.Whole.params y2 y3 y4 y5 y6 y7 y8 y9 y10 := by
  subst h2 h3 h4 h5 h6 h7 h8 h9 h10; rfl

/-- At the extended reals the kernel and the reference, from equal arguments, leave equal results. -/
theorem algebraic : Cert.algebraic_KernelIdeal_ReferenceIdeal (hKernelIdeal := Cert.KernelIdeal.Gen.facts) (hReferenceIdeal := Cert.ReferenceIdeal.Gen.facts) := by
  intro m g m' g' _ he
  have hp : ∀ c : Dev Cert.KernelIdeal.nD, Cert.ReferenceIdeal.Value.par m' c = Cert.KernelIdeal.Value.par m c := fun c => by
    obtain ⟨h0, h1, h2, h3, h4, h5, h6, h7, h8, h9, h10⟩ := he c
    exact params_congr h2 h3 h4 h5 h6 h7 h8 h9 h10
  refine ⟨fun c => Cert.Whole.attn (m ((c.tc : Thread Cert.KernelIdeal.nD Cert.KernelIdeal.τ).loc Cert.KernelIdeal.main_arg1)),
    fun c => Cert.Whole.out (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Whole.attnCodes (m ((c.tc : Thread Cert.KernelIdeal.nD Cert.KernelIdeal.τ).loc Cert.KernelIdeal.main_arg1)),
    fun c => Cert.Whole.attnScales (m ((c.tc : Thread Cert.KernelIdeal.nD Cert.KernelIdeal.τ).loc Cert.KernelIdeal.main_arg1)),
    fun c => Cert.Whole.preCodes (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Whole.preScales (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Whole.hidCodes (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Whole.hidScales (Cert.KernelIdeal.Value.par m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    kernel_run m g, (θ_run _ _ _).mono (fun r h c => ?_) (reference_run m' g')⟩
  obtain ⟨r0, r1, r2, r3, r4, r5, r6, r7, rest⟩ := h c
  have e0 := (he c).1
  have e1 := (he c).2.1
  exact ⟨r0.trans (congrArg Cert.Whole.attn e1), r1.trans (congr (congrArg₂ Cert.Whole.out (hp c) e0) e1), r2.trans (congrArg Cert.Whole.attnCodes e1), r3.trans (congrArg Cert.Whole.attnScales e1), r4.trans (congr (congrArg₂ Cert.Whole.preCodes (hp c) e0) e1), r5.trans (congr (congrArg₂ Cert.Whole.preScales (hp c) e0) e1), r6.trans (congr (congrArg₂ Cert.Whole.hidCodes (hp c) e0) e1), r7.trans (congr (congrArg₂ Cert.Whole.hidScales (hp c) e0) e1), rest⟩

theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g, fun m g _ => Cert.ReferenceIdeal.Gen.frame m g,
    trivial, algebraic⟩

end Cert.Proof

end
